-- ==== Defs.lean ====
def Pre_Kernel [hPre_rolled_Kernel : Cert.Pre_rolled_Kernel.Facts] (m : (ℓ : Loc Cert.Kernel.nD Cert.Kernel.τ Cert.Kernel.sig) → Buf (Elt Bits) ℓ) : Prop :=
  ∀ c : Dev Cert.Kernel.nD,
    (Cert.Pre_rolled_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_Kernel : Cert.Pre_rolled_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_ReferenceIdeal [hPre_rolled_ReferenceIdeal : Cert.Pre_rolled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_Kernel : Cert.Pre_rolled_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_Kernel : Cert.Pre_rolled_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_ReferenceIdeal [hReferenceIdeal : Cert.ReferenceIdeal.Facts] [hPre_rolled_ReferenceIdeal : Cert.Pre_rolled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_Kernel : Cert.Pre_rolled_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![16, 2048, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![16, 2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_Kernel : Cert.Pre_rolled_Kernel.Facts) (hPre_rolled_ReferenceIdeal : Cert.Pre_rolled_ReferenceIdeal.Facts),
    quiescent_Kernel (hKernel := hKernel) (hPre_rolled_Kernel := hPre_rolled_Kernel)
    ∧ quiescent_KernelIdeal (hKernelIdeal := hKernelIdeal) (hPre_rolled_Kernel := hPre_rolled_Kernel)
    ∧ quiescent_ReferenceIdeal (hReferenceIdeal := hReferenceIdeal)
    ∧ quiescent_ReferenceIdeal_pre_rolled_ReferenceIdeal (hReferenceIdeal := hReferenceIdeal) (hPre_rolled_ReferenceIdeal := hPre_rolled_ReferenceIdeal)
    ∧ preserves_Kernel_KernelIdeal
    ∧ algebraic_KernelIdeal_ReferenceIdeal (hKernelIdeal := hKernelIdeal) (hReferenceIdeal := hReferenceIdeal) (hPre_rolled_Kernel := hPre_rolled_Kernel)
-- ==== Pre_rolled_Kernel.lean ====
abbrev S1x2048x1024 : Shape := ⟨3, ![1, 2048, 1024]⟩
abbrev S16 : Shape := ⟨1, ![16]⟩

class Facts : Prop where

variable [Facts]

noncomputable abbrev lit0 : Fin 16 → BitVec 32 := fun
  | 0 => 15#32 | 1 => 0#32 | 2 => 1#32 | 3 => 2#32 | 4 => 3#32 | 5 => 4#32 | 6 => 5#32 | 7 => 6#32
  | 8 => 7#32 | 9 => 8#32 | 10 => 9#32 | 11 => 10#32 | 12 => 11#32 | 13 => 12#32 | 14 => 13#32 | 15 => 14#32
  | _ => 0#32

def fn {F : FTy → Type} [FloatOps F] (main_arg0 : FVec F S1x2048x1024 .f32) (main_arg1 : IVec S16 32) : IVec S16 1 :=
  let main_c : IVec S16 32 := fun i => lit0 (S16.rowMajor i)
  let main_v0 : IVec S16 1 := cmpi .eq main_arg1 main_c
  main_v0
-- ==== Pre_rolled_ReferenceIdeal.lean ====
abbrev S16x2048x1024 : Shape := ⟨3, ![16, 2048, 1024]⟩
abbrev S16 : Shape := ⟨1, ![16]⟩

class Facts : Prop where

variable [Facts]

noncomputable abbrev lit0 : Fin 16 → BitVec 32 := fun
  | 0 => 15#32 | 1 => 0#32 | 2 => 1#32 | 3 => 2#32 | 4 => 3#32 | 5 => 4#32 | 6 => 5#32 | 7 => 6#32
  | 8 => 7#32 | 9 => 8#32 | 10 => 9#32 | 11 => 10#32 | 12 => 11#32 | 13 => 12#32 | 14 => 13#32 | 15 => 14#32
  | _ => 0#32

def fn {F : FTy → Type} [FloatOps F] (main_arg0 : FVec F S16x2048x1024 .f32) (main_arg1 : IVec S16 32) : IVec S16 1 :=
  let main_c : IVec S16 32 := fun i => lit0 (S16.rowMajor i)
  let main_v0 : IVec S16 1 := cmpi .eq main_arg1 main_c
  main_v0
-- ==== Kernel.lean ====
abbrev S1x2048x1024 : Shape := ⟨3, ![1, 2048, 1024]⟩
abbrev S16 : Shape := ⟨1, ![16]⟩
abbrev S2048x1024 : Shape := ⟨2, ![2048, 1024]⟩
abbrev S2x2048x1024 : Shape := ⟨3, ![2, 2048, 1024]⟩
abbrev S8 : Shape := ⟨1, ![8]⟩
abbrev S1 : Shape := ⟨1, ![1]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 3
  | .vmem => 3
  | .smem => 1
  | _ => 0

abbrev bufTy : (tb : Table) → Fin (tcTables nBuf tb) → BufTy
  | .hbm, ⟨0, _⟩ => ⟨S1x2048x1024, .f32⟩
  | .hbm, ⟨1, _⟩ => ⟨S16, .i32⟩
  | .hbm, ⟨2, _⟩ => ⟨S1x2048x1024, .bf16⟩
  | .local _ .vmem, ⟨0, _⟩ => ⟨S2048x1024, .f32⟩
  | .local _ .vmem, ⟨1, _⟩ => ⟨S2x2048x1024, .i8⟩
  | .local _ .vmem, ⟨2, _⟩ => ⟨S2048x1024, .bf16⟩
  | .local _ .smem, ⟨0, _⟩ => ⟨S16, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![v3.toNat]
def k0_dev1 (v4 : BitVec 32) : Nat :=
  let c0_i32_45 : BitVec 32 := 0#32
  let c1_i32_44 : BitVec 32 := 1#32
  let v94 : BitVec 32 := Scalar.muli v4 c1_i32_44
  let v95 : BitVec 32 := Scalar.addi c0_i32_45 v94
  v95.toNat

def k0_dev2 (d0 : Dev nD) (v5 : BitVec 32) (v8 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v51 : BitVec 1 := Scalar.cmpi .eq v50 v2
  let c15_i32 : BitVec 32 := 15#32
  let v48 : BitVec 1 := Scalar.cmpi .eq v47 v2
  let c14_i32 : BitVec 32 := 14#32
  let v45 : BitVec 1 := Scalar.cmpi .eq v44 v2
  let c13_i32 : BitVec 32 := 13#32
  let v42 : BitVec 1 := Scalar.cmpi .eq v41 v2
  let c12_i32 : BitVec 32 := 12#32
  let v39 : BitVec 1 := Scalar.cmpi .eq v38 v2
  let c11_i32 : BitVec 32 := 11#32
  let v36 : BitVec 1 := Scalar.cmpi .eq v35 v2
  let c10_i32 : BitVec 32 := 10#32
  let v33 : BitVec 1 := Scalar.cmpi .eq v32 v2
  let c9_i32 : BitVec 32 := 9#32
  let v30 : BitVec 1 := Scalar.cmpi .eq v29 v2
  let c8_i32 : BitVec 32 := 8#32
  let v27 : BitVec 1 := Scalar.cmpi .eq v26 v2
  let c7_i32 : BitVec 32 := 7#32
  let v24 : BitVec 1 := Scalar.cmpi .eq v23 v2
  let c6_i32 : BitVec 32 := 6#32
  let v21 : BitVec 1 := Scalar.cmpi .eq v20 v2
  let c5_i32 : BitVec 32 := 5#32
  let v18 : BitVec 1 := Scalar.cmpi .eq v17 v2
  let c4_i32 : BitVec 32 := 4#32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let v19 : BitVec 32 := Scalar.select v18 c4_i32 v16
  let v22 : BitVec 32 := Scalar.select v21 c5_i32 v19
  let v25 : BitVec 32 := Scalar.select v24 c6_i32 v22
  let v28 : BitVec 32 := Scalar.select v27 c7_i32 v25
  let v31 : BitVec 32 := Scalar.select v30 c8_i32 v28
  let v34 : BitVec 32 := Scalar.select v33 c9_i32 v31
  let v37 : BitVec 32 := Scalar.select v36 c10_i32 v34
  let v40 : BitVec 32 := Scalar.select v39 c11_i32 v37
  let v43 : BitVec 32 := Scalar.select v42 c12_i32 v40
  let v46 : BitVec 32 := Scalar.select v45 c13_i32 v43
  let v49 : BitVec 32 := Scalar.select v48 c14_i32 v46
  let v52 : BitVec 32 := Scalar.select v51 c15_i32 v49
  let c1_i32_47 : BitVec 32 := 1#32
  let v96 : BitVec 32 := Scalar.muli v52 c1_i32_47
  let v97 : BitVec 32 := Scalar.addi c0_i32_48 v96
  v97.toNat

def k0_chk2 (d0 : Dev nD) (v5 : BitVec 32) (v8 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) : Prop :=
  ((k0_dev2 d0 v5 v8 v11 v14 v17 v20 v23 v26 v29 v32 v35 v38 v41 v44 v47 v50) < nD)
theorem k0_dev2_lt : ∀ (d0 : Dev nD) (v5 : BitVec 32) (v8 : BitVec 32) (v11 : BitVec 32) (v14 : BitVec 32) (v17 : BitVec 32) (v20 : BitVec 32) (v23 : BitVec 32) (v26 : BitVec 32) (v29 : BitVec 32) (v32 : BitVec 32) (v35 : BitVec 32) (v38 : BitVec 32) (v41 : BitVec 32) (v44 : BitVec 32) (v47 : BitVec 32) (v50 : BitVec 32) (k0_hw2 : k0_chk2 d0 v5 v8 v11 v14 v17 v20 v23 v26 v29 v32 v35 v38 v41 v44 v47 v50), (k0_dev2 d0 v5 v8 v11 v14 v17 v20 v23 v26 v29 v32 v35 v38 v41 v44 v47 v50) < nD := fun d0 v5 v8 v11 v14 v17 v20 v23 v26 v29 v32 v35 v38 v41 v44 v47 v50 k0_hw2 => k0_hw2

def k0_dev3 (v4 : BitVec 32) : Nat :=
  let c0_i32_68 : BitVec 32 := 0#32
  let c1_i32_67 : BitVec 32 := 1#32
  let v115 : BitVec 32 := Scalar.muli v4 c1_i32_67
  let v116 : BitVec 32 := Scalar.addi c0_i32_68 v115
  v116.toNat
def k0_dev4 (v4 : BitVec 32) : Nat :=
  let c0_i32_91 : BitVec 32 := 0#32
  let c1_i32_90 : BitVec 32 := 1#32
  let v142 : BitVec 32 := Scalar.muli v4 c1_i32_90
  let v143 : BitVec 32 := Scalar.addi c0_i32_91 v142
  v143.toNat
def k0_dev5 (v4 : BitVec 32) : Nat :=
  let c0_i32_114 : BitVec 32 := 0#32
  let c1_i32_113 : BitVec 32 := 1#32
  let v169 : BitVec 32 := Scalar.muli v4 c1_i32_113
  let v170 : BitVec 32 := Scalar.addi c0_i32_114 v169
  v170.toNat
def k0_dev6 (v4 : BitVec 32) : Nat :=
  let c0_i32_137 : BitVec 32 := 0#32
  let c1_i32_136 : BitVec 32 := 1#32
  let v196 : BitVec 32 := Scalar.muli v4 c1_i32_136
  let v197 : BitVec 32 := Scalar.addi c0_i32_137 v196
  v197.toNat
def k0_dev7 (v4 : BitVec 32) : Nat :=
  let c0_i32_160 : BitVec 32 := 0#32
  let c1_i32_159 : BitVec 32 := 1#32
  let v223 : BitVec 32 := Scalar.muli v4 c1_i32_159
  let v224 : BitVec 32 := Scalar.addi c0_i32_160 v223
  v224.toNat
def k0_dev8 (v4 : BitVec 32) : Nat :=
  let c0_i32_183 : BitVec 32 := 0#32
  let c1_i32_182 : BitVec 32 := 1#32
  let v250 : BitVec 32 := Scalar.muli v4 c1_i32_182
  let v251 : BitVec 32 := Scalar.addi c0_i32_183 v250
  v251.toNat
def k0_dev9 (v4 : BitVec 32) : Nat :=
  let c0_i32_206 : BitVec 32 := 0#32
  let c1_i32_205 : BitVec 32 := 1#32
  let v277 : BitVec 32 := Scalar.muli v4 c1_i32_205
  let v278 : BitVec 32 := Scalar.addi c0_i32_206 v277
  v278.toNat
def k0_dev10 (v4 : BitVec 32) : Nat :=
  let c0_i32_229 : BitVec 32 := 0#32
  let c1_i32_228 : BitVec 32 := 1#32
  let v304 : BitVec 32 := Scalar.muli v4 c1_i32_228
  let v305 : BitVec 32 := Scalar.addi c0_i32_229 v304
  v305.toNat

def k0_chk1 (v4 : BitVec 32) : Prop :=
  ((k0_dev1 v4) < nD) ∧
  ((k0_dev3 v4) < nD) ∧
  ((k0_dev4 v4) < nD) ∧
  ((k0_dev5 v4) < nD) ∧
  ((k0_dev6 v4) < nD) ∧
  ((k0_dev7 v4) < nD) ∧
  ((k0_dev8 v4) < nD) ∧
  ((k0_dev9 v4) < nD) ∧
  ((k0_dev10 v4) < nD)
theorem k0_dev1_lt : ∀ (v4 : BitVec 32) (k0_hw1 : k0_chk1 v4), (k0_dev1 v4) < nD := fun v4 k0_hw1 => k0_hw1.1
theorem k0_dev3_lt : ∀ (v4 : BitVec 32) (k0_hw1 : k0_chk1 v4), (k0_dev3 v4) < nD := fun v4 k0_hw1 => k0_hw1.2.1
theorem k0_dev4_lt : ∀ (v4 : BitVec 32) (k0_hw1 : k0_chk1 v4), (k0_dev4 v4) < nD := fun v4 k0_hw1 => k0_hw1.2.2.1
theorem k0_dev5_lt : ∀ (v4 : BitVec 32) (k0_hw1 : k0_chk1 v4), (k0_dev5 v4) < nD := fun v4 k0_hw1 => k0_hw1.2.2.2.1
theorem k0_dev6_lt : ∀ (v4 : BitVec 32) (k0_hw1 : k0_chk1 v4), (k0_dev6 v4) < nD := fun v4 k0_hw1 => k0_hw1.2.2.2.2.1
theorem k0_dev7_lt : ∀ (v4 : BitVec 32) (k0_hw1 : k0_chk1 v4), (k0_dev7 v4) < nD := fun v4 k0_hw1 => k0_hw1.2.2.2.2.2.1
theorem k0_dev8_lt : ∀ (v4 : BitVec 32) (k0_hw1 : k0_chk1 v4), (k0_dev8 v4) < nD := fun v4 k0_hw1 => k0_hw1.2.2.2.2.2.2.1
theorem k0_dev9_lt : ∀ (v4 : BitVec 32) (k0_hw1 : k0_chk1 v4), (k0_dev9 v4) < nD := fun v4 k0_hw1 => k0_hw1.2.2.2.2.2.2.2.1
theorem k0_dev10_lt : ∀ (v4 : BitVec 32) (k0_hw1 : k0_chk1 v4), (k0_dev10 v4) < nD := fun v4 k0_hw1 => k0_hw1.2.2.2.2.2.2.2.2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16x2048x1024 : Shape := ⟨3, ![16, 2048, 1024]⟩
abbrev S16 : Shape := ⟨1, ![16]⟩
abbrev S_ : Shape := ⟨0, ![]⟩
abbrev S16x1 : Shape := ⟨2, ![16, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x2048x1024, .f32⟩
  | .hbm, ⟨14, _⟩ => ⟨S_, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Proof.Proto.lean ====
/-
# The chunked, quantised permutation: buffers, cells and the schedule

Device `c` sends its block, quantised to eight bits and cut in eight chunks of 256 rows, to device `tg c`, and
receives the block of device `fr c`. This module names the chunks of every buffer, the semaphore cells, the schedule
of payments on the shared cells (the barrier, the send and the receive cells), and what each device owes at launch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resources -/

/-- The rounds library's component for the shared cells, duties named by a Boolean. -/
abbrev UB : Type := URounds (GSem nD τ sig) Bool
/-- The components: the pipeline's, the shared cells', the local transfers' counters. -/
abbrev UU : Type := UR sig nD τ × (UB × Counters)

local notation "𝕄" => MT nD τ sig Unit (Elt F) ℕ UU ℕ

/-- The pipeline's part of the ghost state. -/
abbrev EP : Emb (UR sig nD τ) (MT nD τ sig Unit (Elt F) ℕ UU ℕ) := embL
/-- The shared cells' component: the left half of the right factor. -/
def ER : Emb UB (MT nD τ sig Unit (Elt F) ℕ UU ℕ) := (Emb.inl : Emb UB (UB × Counters)).trans embR
instance ER_landsIn : (ER : Emb UB 𝕄).LandsIn (upEmb : UEmb _ 𝕄) := by unfold ER embR; infer_instance
abbrev EC : UEmb Counters (MT nD τ sig Unit (Elt F) ℕ UU ℕ) := countersEmb

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- No loop variants. -/
abbrev 𝒱₀ : Variants := Variants.none

/-! ## Who sends to whom -/

/-- The device that `c` sends to. -/
def tg (c : Dev nD) : Dev nD := ⟨(c.val + 15) % 16, Nat.mod_lt _ (by decide)⟩
/-- The device that `c` receives from. -/
def fr (c : Dev nD) : Dev nD := ⟨(c.val + 1) % 16, Nat.mod_lt _ (by decide)⟩

/-- Sending and receiving are inverse to each other. -/
theorem fr_tg (c : Dev nD) : fr (tg c) = c := by revert c; decide
/-- And the other way round. -/
theorem tg_fr (c : Dev nD) : tg (fr c) = c := by revert c; decide
/-- No two devices send to one. -/
theorem tg_inj {a b : Dev nD} (h : tg a = tg b) : a = b := by rw [← fr_tg a, h, fr_tg]

/-- The permutation as an equivalence of the devices. -/
def perm : Dev nD ≃ Dev nD := ⟨tg, fr, fr_tg, tg_fr⟩

/-! ## The chunks -/

/-- A chunk is inside its array, -/
theorem inbX (k : Fin 8) : ∀ a, (![0, 256 * k.val, 0] : Fin 3 → ℕ) a + S1x256x1024.size a ≤ S1x2048x1024.size a := by
  intro a; have := k.isLt; fin_cases a
  · exact Nat.le_refl 1
  · show 256 * k.val + 256 ≤ 2048; omega
  · exact Nat.le_refl 1024
/-- inside its staging buffer, -/
theorem inbV (k : Fin 8) : ∀ a, (![256 * k.val, 0] : Fin 2 → ℕ) a + S256x1024.size a ≤ S2048x1024.size a := by
  intro a; have := k.isLt; fin_cases a
  · show 256 * k.val + 256 ≤ 2048; omega
  · exact Nat.le_refl 1024
/-- and inside its half of the communication buffer. -/
theorem inbC (b : Fin 2) (k : Fin 8) : ∀ a, (![b.val, 256 * k.val, 0] : Fin 3 → ℕ) a + S1x256x1024.size a ≤ S2x2048x1024.size a := by
  intro a; have := k.isLt; have := b.isLt; fin_cases a
  · show b.val + 1 ≤ 2; omega
  · show 256 * k.val + 256 ≤ 2048; omega
  · exact Nat.le_refl 1024

/-- Chunk `k` of an array of one block; -/
abbrev rX (k : Fin 8) : Rect S1x2048x1024 := Rect.unit (s := S1x2048x1024) ![0, 256 * k.val, 0] S1x256x1024.size (inbX k)
/-- of a staging buffer; -/
abbrev rV (k : Fin 8) : Rect S2048x1024 := Rect.unit (s := S2048x1024) ![256 * k.val, 0] S256x1024.size (inbV k)
/-- of half `b` of the communication buffer. -/
abbrev rC (b : Fin 2) (k : Fin 8) : Rect S2x2048x1024 := Rect.unit (s := S2x2048x1024) ![b.val, 256 * k.val, 0] S1x256x1024.size (inbC b k)

/-- The buffers whole: input and result arrays, float staging, communication, result staging. -/
abbrev xM : Memref sig .tc .hbm S1x2048x1024 .f32 := Memref.whole main_arg0
abbrev oM : Memref sig .tc .hbm S1x2048x1024 .bf16 := Memref.whole main_v1
abbrev vM : Memref sig .tc .vmem S2048x1024 .f32 := Memref.whole cc0_scratch0
abbrev cM : Memref sig .tc .vmem S2x2048x1024 .i8 := Memref.whole cc0_scratch1
abbrev wM : Memref sig .tc .vmem S2048x1024 .bf16 := Memref.whole cc0_scratch2

/-- Chunk `k` of the input array. -/
abbrev xV (k : Fin 8) : View sig .tc .hbm S1x256x1024 .f32 := xM.view.slice (rX k)
abbrev oV (k : Fin 8) : View sig .tc .hbm S1x256x1024 .bf16 := oM.view.slice (rX k)
abbrev vV (k : Fin 8) : View sig .tc .vmem S256x1024 .f32 := vM.view.slice (rV k)
abbrev cV (b : Fin 2) (k : Fin 8) : View sig .tc .vmem S1x256x1024 .i8 := cM.view.slice (rC b k)
abbrev wV (k : Fin 8) : View sig .tc .vmem S256x1024 .bf16 := wM.view.slice (rV k)

/-- A chunk with and without its leading axis has as many elements. -/
theorem nE : S256x1024.numel = S1x256x1024.numel := squeezes_S1x256x1024_S256x1024.numel_eq

/-! ## The cells -/

/-- The runtime's barrier semaphore, one a device, not scoped to the launch. -/
abbrev barS : Sem sig := (SemArray.scalar (sig.barrier 0 rfl) : Sems sig S_).sem
abbrev inS (k : Fin 8) : DmaSem sig := (⟨1 + k.val, by have := k.isLt; show 1 + k.val < 33; omega⟩ : Fin 33)
abbrev sendS (k : Fin 8) : DmaSem sig := (⟨9 + k.val, by have := k.isLt; show 9 + k.val < 33; omega⟩ : Fin 33)
abbrev recvS (k : Fin 8) : DmaSem sig := (⟨17 + k.val, by have := k.isLt; show 17 + k.val < 33; omega⟩ : Fin 33)
abbrev outS (k : Fin 8) : DmaSem sig := (⟨25 + k.val, by have := k.isLt; show 25 + k.val < 33; omega⟩ : Fin 33)

/-- Device `c`'s barrier cell. -/
abbrev bar (c : Dev nD) : GSem nD τ sig := ((c : Thread nD τ), .reg barS)
abbrev snd (c : Dev nD) (k : Fin 8) : GSem nD τ sig := ((c : Thread nD τ), .dma (sendS k))
abbrev rcv (c : Dev nD) (k : Fin 8) : GSem nD τ sig := ((c : Thread nD τ), .dma (recvS k))

/-- What a semaphore is for: chunk `k`'s send (`false`) or receive (`true`), or neither. -/
def kd : SemLoc sig → Option (Bool × Fin 8)
  | .dma q => if h : 9 ≤ q.val ∧ q.val < 25 then some (decide (17 ≤ q.val), ⟨(q.val - 9) % 8, Nat.mod_lt _ (by decide)⟩) else none
  | _ => none

/-- A send semaphore is the send cell of its chunk. -/
theorem kd_send (k : Fin 8) : kd (.dma (sendS k)) = some (false, k) := by revert k; decide
/-- A receive semaphore is the receive cell of its chunk. -/
theorem kd_recv (k : Fin 8) : kd (.dma (recvS k)) = some (true, k) := by revert k; decide
/-- A copy into the staging buffer is not one of the protocol. -/
theorem kd_in (k : Fin 8) : kd (.dma (inS k)) = none := by revert k; decide
/-- Nor is a copy into the result array, -/
theorem kd_out (k : Fin 8) : kd (.dma (outS k)) = none := by revert k; decide
/-- nor the barrier. -/
theorem kd_bar : kd (.reg barS) = none := rfl
/-- No copy's semaphore is the barrier's. -/
theorem dma_ne_bar (q : DmaSem sig) : (SemLoc.dma q : SemLoc sig) ≠ .reg barS := fun h => by cases h

/-- The credit of one chunk's transfer. -/
abbrev N : ℕ := (cV 0 0).dmaCredit
/-- A chunk has a positive credit. -/
theorem N_pos : 0 < N := View.dmaCredit_pos _ (by decide)

/-! ## Values -/

/-- Chunk `k` of device `c`'s block of the input; -/
def X (c : Dev nD) (k : Fin 8) : Vec F S256x1024 .f32 := ((xV k).reshape S256x1024 nE).read (Elt F) (m ((c : Thread nD τ).loc main_arg0))
/-- quantised; -/
def Y (c : Dev nD) (k : Fin 8) : IVec S1x256x1024 8 := k0_pay1 (X m c k)
/-- and the chunk the result holds: that of the device `c` receives from, scaled back. -/
def Z (c : Dev nD) (k : Fin 8) : FVec F S256x1024 .bf16 := k0_pay12 (Y m (fr c) k)

/-! ## Pieces of the buffers -/

/-- Chunk `k` of the input array, unchanged. -/
def xP (c : Dev nD) (k : Fin 8) : sProp 𝕄 := (xV k).loc (c : Thread nD τ) ↦[(xV k).set]{fullShare} m ((c : Thread nD τ).loc main_arg0)
def oP (c : Dev nD) (k : Fin 8) (f : Buf (Elt F) ((c : Thread nD τ).loc main_v1)) : sProp 𝕄 := (oV k).loc (c : Thread nD τ) ↦[(oV k).set]{fullShare} f
def vP (c : Dev nD) (k : Fin 8) (f : Buf (Elt F) ((c : Thread nD τ).loc cc0_scratch0)) : sProp 𝕄 := (vV k).loc (c : Thread nD τ) ↦[(vV k).set]{fullShare} f
def cP (c : Dev nD) (b : Fin 2) (k : Fin 8) (f : Buf (Elt F) ((c : Thread nD τ).loc cc0_scratch1)) : sProp 𝕄 := (cV b k).loc (c : Thread nD τ) ↦[(cV b k).set]{fullShare} f
def wP (c : Dev nD) (k : Fin 8) (f : Buf (Elt F) ((c : Thread nD τ).loc cc0_scratch2)) : sProp 𝕄 := (wV k).loc (c : Thread nD τ) ↦[(wV k).set]{fullShare} f

omit [FloatOps F] in
/-- The input's chunk may be kept by a cell. -/
instance xP_storable (c k) : BI.Storable (upEmb : UEmb _ 𝕄) (xP (F := F) m c k) := by unfold xP; infer_instance
omit [FloatOps F] in
/-- So may the communication buffer's. -/
instance cP_storable (c b k f) : BI.Storable (upEmb : UEmb _ 𝕄) (cP (F := F) c b k f) := by unfold cP; infer_instance

/-! ## The schedule -/

/-- What the landing of a chunk hands the receiver: the upper half's chunk holding the sender's quantised chunk; -/
def recvPay (c : Dev nD) (k : Fin 8) : sProp 𝕄 := iprop(∃ f, ⌜(cV 1 k).read (Elt F) f = Y m (fr c) k⌝ ∗ cP c 1 k f)
/-- what the end of a chunk's send hands the sender: the lower half's chunk back; -/
def sendPay (c : Dev nD) (k : Fin 8) : sProp 𝕄 := iprop(∃ f, cP (F := F) c 0 k f)
/-- what the receiver's signal hands the sender: the receiver's landing chunks. -/
def barPay (c : Dev nD) : sProp 𝕄 := bigSep Finset.univ fun k : Fin 8 => iprop(∃ f, cP (F := F) (tg c) 1 k f)

/-- One round: a barrier cell has two duties of one unit (`false` from `fr c`, `true` from `tg c`), a send or receive
    cell one duty of the chunk's credit. -/
def sched : Rounds.Schedule (GSem nD τ sig) Bool 𝕄 where
  duties g r := if r = 0 ∧ g.1.2 = .tc then (if g.2 = .reg barS then Finset.univ else if (kd g.2).isSome then {false} else ∅) else ∅
  unitless _ := False
  amount g _ _ := if g.2 = .reg barS then 1 else N
  payload g _ d :=
    if g.2 = .reg barS then (if d then barPay g.1.1 else iprop(emp))
    else match kd g.2 with
      | some (true, k) => recvPay m g.1.1 k
      | some (false, k) => sendPay g.1.1 k
      | none => iprop(emp)
  amount_pos g _ _ _ := by
    by_cases h : g.2 = .reg barS
    · rw [if_pos h]; exact Nat.one_pos
    · rw [if_neg h]; exact N_pos

/-- What a landing hands over may be stored. -/
instance sched_payload_storable (g : GSem nD τ sig) (r : ℕ) (d : Bool) :
    BI.Storable (upEmb : UEmb _ 𝕄) ((sched (F := F) m).payload g r d) := by
  show BI.Storable upEmb (if g.2 = .reg barS then (if d then barPay g.1.1 else iprop(emp))
    else match kd g.2 with
      | some (true, k) => recvPay m g.1.1 k
      | some (false, k) => sendPay g.1.1 k
      | none => iprop(emp))
  unfold barPay recvPay sendPay
  (repeat' split) <;> infer_instance

section Sched
variable (c : Dev nD) (k : Fin 8)

/-- The barrier's duties are two, -/
theorem duties_bar : (sched (F := F) m).duties (bar c) 0 = Finset.univ := by
  dsimp only [sched]; rw [if_pos ⟨rfl, rfl⟩]; exact if_pos rfl
/-- a send cell's one, -/
theorem duties_snd : (sched (F := F) m).duties (snd c k) 0 = {false} := by
  dsimp only [sched]; rw [if_pos ⟨rfl, rfl⟩, if_neg (dma_ne_bar _), kd_send]; rfl
/-- a receive cell's one, -/
theorem duties_rcv : (sched (F := F) m).duties (rcv c k) 0 = {false} := by
  dsimp only [sched]; rw [if_pos ⟨rfl, rfl⟩, if_neg (dma_ne_bar _), kd_recv]; rfl
/-- and later rounds have none. -/
theorem duties_later (g : GSem nD τ sig) : ∀ r, 0 + 1 ≤ r → (sched (F := F) m).duties g r = ∅ :=
  fun r hr => by dsimp only [sched]; rw [if_neg fun h => by omega]

/-- Each signal of the barrier is one unit. -/
theorem amount_bar (d : Bool) : (sched (F := F) m).amount (bar c) 0 d = 1 := by dsimp only [sched]; exact if_pos rfl
/-- A duty of a copy's cell is the chunk's whole credit. -/
theorem amount_dma (q : DmaSem sig) (d : Bool) : (sched (F := F) m).amount ((c : Thread nD τ), .dma q) 0 d = N := by
  dsimp only [sched]; exact if_neg (dma_ne_bar _)

/-- The barrier is waited for two units, -/
theorem expect_bar : (sched (F := F) m).expect (bar c) 0 = 2 := by
  unfold Schedule.expect Schedule.amountOf
  rw [duties_bar, Finset.sum_congr rfl fun d _ => amount_bar m c d, Finset.sum_const, Finset.card_univ, Fintype.card_bool, smul_eq_mul]
/-- a send cell for a chunk's credit, -/
theorem expect_snd : (sched (F := F) m).expect (snd c k) 0 = N := by
  unfold Schedule.expect Schedule.amountOf; rw [duties_snd, Finset.sum_singleton]; exact amount_dma m c _ _
/-- a receive cell for a chunk's credit. -/
theorem expect_rcv : (sched (F := F) m).expect (rcv c k) 0 = N := by
  unfold Schedule.expect Schedule.amountOf; rw [duties_rcv, Finset.sum_singleton]; exact amount_dma m c _ _

/-- The receiver's signal hands over its landing buffer, -/
theorem payload_bar_true : (sched (F := F) m).payload (bar c) 0 true = barPay c := by
  dsimp only [sched]; rw [if_pos rfl, if_pos rfl]
/-- the other signal nothing, -/
theorem payload_bar_false : (sched (F := F) m).payload (bar c) 0 false = iprop(emp) := by
  dsimp only [sched]; rw [if_pos rfl]; exact if_neg Bool.false_ne_true
/-- the send cell the source of the copy, -/
theorem payload_snd (d : Bool) : (sched (F := F) m).payload (snd c k) 0 d = sendPay c k := by
  dsimp only [sched]; rw [if_neg (dma_ne_bar _), kd_send]
/-- and the receive cell its landing. -/
theorem payload_rcv (d : Bool) : (sched (F := F) m).payload (rcv c k) 0 d = recvPay m c k := by
  dsimp only [sched]; rw [if_neg (dma_ne_bar _), kd_recv]

/-- All that the barrier hands over, -/
theorem rest_bar : bigSep ((sched (F := F) m).duties (bar c) 0 \ ∅) (fun d => (sched (F := F) m).payload (bar c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
/-- a send cell, -/
theorem rest_snd : bigSep ((sched (F := F) m).duties (snd c k) 0 \ ∅) (fun d => (sched (F := F) m).payload (snd c k) 0 d) = sendPay c k := by
  rw [Finset.sdiff_empty, duties_snd, bigSep_singleton, payload_snd]
/-- a receive cell. -/
theorem rest_rcv : bigSep ((sched (F := F) m).duties (rcv c k) 0 \ ∅) (fun d => (sched (F := F) m).payload (rcv c k) 0 d) = recvPay m c k := by
  rw [Finset.sdiff_empty, duties_rcv, bigSep_singleton, payload_rcv]

end Sched

/-! ## What each device owes; the levels -/

/-- The chunk of the `n`-th send from the end. -/
abbrev ck (n : ℕ) : Fin 8 := ⟨7 - n, by omega⟩

/-- What is still owed to the receive cells of `tg c` with `n` sends to go. -/
def owR (c : Dev nD) : ℕ → CellTallies nD τ sig Unit
  | 0 => 0
  | n + 1 => owR c n + tallyAt (rcv (tg c) (ck n)) () N

/-- At launch: the eight landings, and one unit on the barrier cells of `fr c` and `tg c`. -/
def O₁ (c : Dev nD) : CellTallies nD τ sig Unit := owR c 8 + tallyAt (bar (fr c)) () 1
def O₀ (c : Dev nD) : CellTallies nD τ sig Unit := O₁ c + tallyAt (bar (tg c)) () 1

/-- The levels are of the cells of the kernel's own core. -/
def L (g : GSem nD τ sig) : Finset Unit := if g.1.2 = .tc then {()} else ∅
/-- Barrier cells at level 1, receive cells at 2, all others at 0. -/
def lv (g : GSem nD τ sig) (_ : Unit) : ℕ := if g.2 = .reg barS then 1 else match kd g.2 with | some (true, _) => 2 | _ => 0

/-- Other threads have none. -/
theorem L_of_ne (g : GSem nD τ sig) (h : g.1.2 ≠ .tc) : L g = ∅ := if_neg h
/-- A core's own cells all have the one level name. -/
theorem L_tc (c : Dev nD) (sm : SemLoc sig) : L ((c : Thread nD τ), sm) = {()} := if_pos rfl
/-- The barrier is at level one, -/
theorem lv_bar (c : Dev nD) (u) : lv (bar c) u = 1 := if_pos rfl
/-- the receive cells at level two, -/
theorem lv_rcv (c : Dev nD) (k) (u) : lv (rcv c k) u = 2 := by dsimp only [lv]; rw [if_neg (dma_ne_bar _), kd_recv]
/-- and every other cell of a copy at level zero. -/
theorem lv_low (c : Dev nD) (q : DmaSem sig) (h : ∀ k, kd (.dma q) ≠ some (true, k)) (u) : lv ((c : Thread nD τ), .dma q) u = 0 := by
  dsimp only [lv]; rw [if_neg (dma_ne_bar _)]
  split
  · exact absurd ‹_› (h _)
  · rfl

/-- What a device owes after some sends is on receive cells. -/
theorem owR_pos {c : Dev nD} {n : ℕ} {g : GSem nD τ sig} {u : Unit} (h : 0 < owR c n g u) : ∃ k, g = rcv (tg c) k := by
  induction n with
  | zero => exact absurd h (Nat.lt_irrefl 0)
  | succ n ih =>
    unfold owR at h
    rw [Pi.add_apply, Finsupp.add_apply, tallyAt_apply] at h
    by_cases e : g = rcv (tg c) (ck n) ∧ u = ()
    · exact ⟨_, e.1⟩
    · rw [if_neg e] at h; exact ih h

/-- What a device owes at first is on barriers and receive cells. -/
theorem O₀_pos {c : Dev nD} {g : GSem nD τ sig} {u : Unit} (h : 0 < O₀ c g u) :
    (∃ k, g = rcv (tg c) k) ∨ g = bar (fr c) ∨ g = bar (tg c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (owR_pos h)

omit [FloatOps F] in
/-- A wait on a cell at level 0 is allowed while landings are owed; -/
theorem mayWait_low (c : Dev nD) (q : DmaSem sig) (hq : ∀ k, kd (.dma q) ≠ some (true, k)) (n : ℕ) :
    (levAts L lv : sProp 𝕄) ⊢ MayWait (c : Thread nD τ) (.dma q) () (owR c n) :=
  MayOwe.of_cut (L := L) (lev := lv) 0 (fun p hp => by rw [Finset.mem_singleton.mp hp, L_tc]; exact Finset.mem_singleton_self _)
    (fun g u hg => by obtain ⟨k, rfl⟩ := owR_pos hg; exact Finset.mem_singleton_self _)
    (fun p hp => by rw [Finset.mem_singleton.mp hp]; exact Nat.le_of_eq (lv_low c q hq _))
    (fun g u hg => by obtain ⟨k, rfl⟩ := owR_pos hg; rw [lv_rcv]; decide)

omit [FloatOps F] in
/-- so is the wait on the barrier; -/
theorem mayWait_bar (c : Dev nD) (n : ℕ) :
    (levAts L lv : sProp 𝕄) ⊢ MayWait (c : Thread nD τ) (.reg barS) () (owR c n) :=
  MayOwe.of_cut (L := L) (lev := lv) 1 (fun p hp => by rw [Finset.mem_singleton.mp hp, L_tc]; exact Finset.mem_singleton_self _)
    (fun g u hg => by obtain ⟨k, rfl⟩ := owR_pos hg; exact Finset.mem_singleton_self _)
    (fun p hp => by rw [Finset.mem_singleton.mp hp]; exact Nat.le_of_eq (lv_bar c _))
    (fun g u hg => by obtain ⟨k, rfl⟩ := owR_pos hg; rw [lv_rcv]; decide)

omit [FloatOps F] in
/-- and a wait on a cell at level 0 with everything owed at launch still owed, or nothing. -/
theorem mayWait_stage (c : Dev nD) (q : DmaSem sig) (hq : ∀ k, kd (.dma q) ≠ some (true, k)) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; exact Nat.le_of_eq (lv_low c q hq _))
      (fun g u hg => by
        rcases O₀_pos hg with ⟨k, rfl⟩ | rfl | rfl
        · rw [lv_rcv]; decide
        · rw [lv_bar]; decide
        · rw [lv_bar]; decide)
  · rw [MayWait_zero]; iintro -; iempintro

end Cert.KernelIdeal.Perm

end
-- ==== Proof.Steps.lean ====
/-
# One step of the kernel at a time

A chunk's resources in the stages they pass through, and for each kind of operation of the kernel's body the rule that
takes a chunk from one stage to the next.
-/
module

public import proofs.«01_k».proof.Proof.Proto
public import Idealize.ShloMosaic.Lib.ViewIndex

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-! ## The shared cells' records -/

/-- Which shared cell of a device: its barrier, or chunk `k`'s send (`false`) or receive (`true`). -/
abbrev J : Type := Unit ⊕ (Bool × Fin 8)
/-- The semaphore of it. -/
def csem : J → SemLoc sig
  | .inl _ => .reg barS
  | .inr (false, k) => .dma (sendS k)
  | .inr (true, k) => .dma (recvS k)
/-- A cell of a device. -/
abbrev kcell (cj : Dev nD × J) : GSem nD τ sig := ((cj.1 : Thread nD τ), csem cj.2)

/-- Every shared cell's invariant, and that its round 0 is reached. -/
def records (K : Dev nD × J → ℕ) : sProp 𝕄 :=
  iprop((bigSep Finset.univ fun cj : Dev nD × J => cellInv ER (sched m) (K cj) (kcell cj))
    ∗ bigSep Finset.univ fun cj : Dev nD × J => reached ER (kcell cj) 0)

/-- The records may be copied. -/
instance records_persistent (K : Dev nD × J → ℕ) : BI.Persistent (records m K) := by unfold records; infer_instance

variable (K : Dev nD × J → ℕ)

/-- A cell's invariant out of the records; -/
theorem inv_at (cj : Dev nD × J) : records m K ⊢ cellInv ER (sched m) (K cj) (kcell cj) := by
  unfold records; iintro ⟨H, -⟩
  iapply (show (bigSep Finset.univ fun cj : Dev nD × J => (cellInv ER (sched m) (K cj) (kcell cj) : sProp 𝕄)) ⊢ cellInv ER (sched m) (K cj) (kcell cj) from
    bigSep_elim (Finset.mem_univ cj)); iexact H
/-- and its mark. -/
theorem reached_at (cj : Dev nD × J) : records m K ⊢ reached ER (kcell cj) 0 := by
  unfold records; iintro ⟨-, H⟩
  iapply (show (bigSep Finset.univ fun cj : Dev nD × J => (reached ER (kcell cj) 0 : sProp 𝕄)) ⊢ reached ER (kcell cj) 0 from
    bigSep_elim (Finset.mem_univ cj)); iexact H

/-! ## Stages of a chunk -/

/-- What device `c` owes, whatever waits it has recorded. -/
def OW (c : Dev nD) (O : CellTallies nD τ sig Unit) : sProp 𝕄 := iprop(∃ W, owes (c : Thread nD τ) O W)

variable (c : Dev nD) (k : Fin 8)

/-- The credit of a local copy of a chunk. -/
abbrev inN : ℕ := (vV 0).dmaCredit
abbrev outN : ℕ := (oV 0).dmaCredit

/-- Input: before its copy, while it is in flight, after. -/
def A0 : sProp 𝕄 := iprop(xP m c k ∗ (∃ f, vP c k f) ∗ semVal ((c : Thread nD τ), .dma (inS k)) 0)
def A1 : sProp 𝕄 := iprop(∃ f, Flight EC (c : Thread nD τ) (.dma (inS k)) () inN iprop(vP c k ((vV k).write (Elt F) f (X m c k) Finset.univ) ∗ xP m c k))
def A2 : sProp 𝕄 := iprop(xP m c k ∗ (∃ f, ⌜(vV k).read (Elt F) f = X m c k⌝ ∗ vP c k f) ∗ semVal ((c : Thread nD τ), .dma (inS k)) 0)

/-- What the send of the chunk spends. -/
def tk : sProp 𝕄 := iprop(dutyTok ER (snd c k) 0 false ∗ dutyTok ER (rcv (tg c) k) 0 false)
/-- Sending: the lower half's chunk at any contents, quantised, in flight, back. -/
def B0 : sProp 𝕄 := iprop((∃ f, cP (F := F) c 0 k f) ∗ tk c k ∗ atPos ER (snd c k) 0 ∅ 0)
def B1 : sProp 𝕄 := iprop((∃ f, ⌜(cV 0 k).read (Elt F) f = Y m c k⌝ ∗ cP (F := F) c 0 k f) ∗ tk c k ∗ atPos ER (snd c k) 0 ∅ 0)
def B2 : sProp 𝕄 := iprop(cred (tallyAt (snd c k) () N) ∗ atPos ER (snd c k) 0 ∅ 0)
def B3 : sProp 𝕄 := iprop((∃ f, cP (F := F) c 0 k f) ∗ semVal (snd c k) 0)

/-- A landing chunk at any contents. -/
def D (c : Dev nD) (k : Fin 8) : sProp 𝕄 := iprop(∃ f, cP (F := F) c 1 k f)
/-- Receiving: before and after the wait. -/
def R0 : sProp 𝕄 := iprop(cred (tallyAt (rcv c k) () N) ∗ atPos ER (rcv c k) 0 ∅ 0)
def R1 : sProp 𝕄 := iprop(recvPay m c k ∗ semVal (rcv c k) 0)

/-- The result: the staging chunk at any contents, scaled back, in flight to the result array, there. -/
def S0 : sProp 𝕄 := iprop((∃ f, wP (F := F) c k f) ∗ (∃ f, oP (F := F) c k f) ∗ semVal ((c : Thread nD τ), .dma (outS k)) 0)
def S1' : sProp 𝕄 := iprop((∃ f, ⌜(wV k).read (Elt F) f = Z m c k⌝ ∗ wP c k f) ∗ (∃ f, oP (F := F) c k f) ∗ semVal ((c : Thread nD τ), .dma (outS k)) 0)
def S2' : sProp 𝕄 := iprop(∃ f g, Flight EC (c : Thread nD τ) (.dma (outS k)) () outN
  iprop(oP c k (((oV k).reshape S256x1024 nE).write (Elt F) f (Z m c k) Finset.univ) ∗ wP c k g))
/-- After the copy of a chunk to the result has landed. -/
def S3' : sProp 𝕄 := iprop((∃ f, wP (F := F) c k f) ∗ (∃ f, ⌜((oV k).reshape S256x1024 nE).read (Elt F) f = Z m c k⌝ ∗ oP c k f) ∗ semVal ((c : Thread nD τ), .dma (outS k)) 0)

/-! ## The rules -/

/-- That a chunk with first row `o` is inside its buffer. -/
abbrev IX (o : ℕ) : Prop := ∀ a, (![0, o, 0] : Fin 3 → ℕ) a + S1x256x1024.size a ≤ S1x2048x1024.size a
abbrev IV (o : ℕ) : Prop := ∀ a, (![o, 0] : Fin 2 → ℕ) a + S256x1024.size a ≤ S2048x1024.size a
abbrev IC (b o : ℕ) : Prop := ∀ a, (![b, o, 0] : Fin 3 → ℕ) a + S1x256x1024.size a ≤ S2x2048x1024.size a

/-- A chunk of each buffer as the body names it, by its first row. -/
abbrev xB (o : ℕ) (h : IX o) : Memref sig .tc .hbm S256x1024 .f32 :=
  (xM.slice (Rect.unit (s := S1x2048x1024) ![0, o, 0] S1x256x1024.size h) (fun _ => rfl)).squeeze S256x1024 squeezes_S1x256x1024_S256x1024
/-- A chunk of the result by its first row, -/
abbrev oB (o : ℕ) (h : IX o) : Memref sig .tc .hbm S256x1024 .bf16 :=
  (oM.slice (Rect.unit (s := S1x2048x1024) ![0, o, 0] S1x256x1024.size h) (fun _ => rfl)).squeeze S256x1024 squeezes_S1x256x1024_S256x1024
/-- of the input staging buffer, -/
abbrev vB (o : ℕ) (h : IV o) : Memref sig .tc .vmem S256x1024 .f32 :=
  vM.slice (Rect.unit (s := S2048x1024) ![o, 0] S256x1024.size h) (fun _ => rfl)
/-- of the result staging buffer, -/
abbrev wB (o : ℕ) (h : IV o) : Memref sig .tc .vmem S256x1024 .bf16 :=
  wM.slice (Rect.unit (s := S2048x1024) ![o, 0] S256x1024.size h) (fun _ => rfl)
/-- of the communication buffer. -/
abbrev cB (b o : ℕ) (h : IC b o) : Memref sig .tc .vmem S256x1024 .i8 :=
  (cM.slice (Rect.unit (s := S2x2048x1024) ![b, o, 0] S1x256x1024.size h) (fun _ => rfl)).squeeze S256x1024 squeezes_S1x256x1024_S256x1024

section Rules

variable {α : Type} {Q : α → sProp (MT nD τ sig Unit (Elt F) ℕ UU ℕ)}

/-- The weakest precondition of a program of device `c`. -/
abbrev WP (c : Dev nD) (Q : α → sProp (MT nD τ sig Unit (Elt F) ℕ UU ℕ)) (x : Prog (TpuEff nD τ sig (Elt F) Λ₀ .tc) α) : sProp (MT nD τ sig Unit (Elt F) ℕ UU ℕ) :=
  wp frame (wpE (defs₀ (F := F)) 𝒱₀ (c : Thread nD τ) none) Set.univ x Q

/-- The copy of a chunk of the input is started. -/
theorem step_in (o : ℕ) (ho : o = 256 * k.val) {s : DmaSem sig} (hs : s = inS k) {h1 : IX o} {h2 : IV o}
    {e1 : (xB o h1).view.WordExact} {e2 : (vB o h2).view.WordExact} {e3 : (DmaTarget.here (nD := nD) (τ := τ) (p := .tc) (vB o h2)).Typed .hbm (.dma s)}
    {kt : PUnit → Prog (TpuEff nD τ sig (Elt F) Λ₀ .tc) α} :
    A0 m c k ⊢ iprop((A1 m c k -∗ WP c Q (kt ⟨⟩)) -∗ WP c Q (.op (.enqueueDma (xB o h1) (.here (vB o h2)) (.dma s) e1 e2 e3) kt)) := by
  subst ho; subst hs
  have hx : (xB (256 * k.val) h1).view.set = (xV k).set := View.set_reshape _ _
  unfold A0 A1 xP vP
  iintro ⟨Hx, ⟨%f, Hv⟩, Hs⟩ Hk
  iapply (Transfers.wp_dmaLocal EC 𝒱₀ (c : Thread nD τ) none (sm := .dma (inS k))
    (src := xB (256 * k.val) h1) (dst := vB (256 * k.val) h2) (Sd := (vV k).set)
    (q := fullShare) (fs := m ((c : Thread nD τ).loc main_arg0)) () inN rfl (View.dmaCredit_pos _ (by decide)) (Finset.Subset.refl _)) $$ [Hx Hv Hs]
  · isplitl [Hx]
    · rw [hx]; iexact Hx
    isplitl [Hv] <;> iassumption
  iintro H
  iapply Hk
  iexists f
  rw [hx]; iexact H

/-- It has landed. -/
theorem step_inwait (o : ℕ) {s : DmaSem sig} (hs : s = inS k) (n : ℕ) {sp : Space} {s' : Shape} {e' : EltTy} {sw : Memref sig .tc sp s' e'} {h : IV o}
    {e1 : sw.view.WordExact} {e2 : (vB o h).view.WordExact} {kt : PUnit → Prog (TpuEff nD τ sig (Elt F) Λ₀ .tc) α} :
    iprop(levAts L lv ∗ A1 m c k ∗ OW c (owR c n))
      ⊢ iprop(((A2 m c k ∗ OW c (owR c n)) -∗ WP c Q (kt ⟨⟩)) -∗ WP c Q (.op (.waitDma2 s sw (vB o h) e1 e2) kt)) := by
  subst hs
  unfold A1 A2 OW
  iintro ⟨#Hl, ⟨%f, Hf⟩, ⟨%W, HO⟩⟩ Hk
  iapply (Transfers.wp_waitLocalO EC 𝒱₀ (c : Thread nD τ) none () (N := inN) (show (vB o h).view.dmaCredit = inN from rfl)) $$ [Hf HO]
  · isplitl [Hf]; · iexact Hf
    isplitl [HO]; · iexact HO
    iapply (mayWait_low c (inS k) (fun k' h' => by rw [kd_in] at h'; cases h') n); iexact Hl
  iintro ⟨⟨Hv, Hx⟩, Hs, HO⟩
  iapply Hk
  isplitr [HO]
  · isplitl [Hx]; · iexact Hx
    isplitl [Hv]
    · iexists ((vV k).write (Elt F) f (X m c k) Finset.univ); isplitr; · (ipureintro; exact View.read_write_univ _ _)
      iexact Hv
    iexact Hs
  iexists _; iexact HO

/-- The staged chunk is loaded. -/
theorem step_loadv (o : ℕ) (ho : o = 256 * k.val) {h : IV o} {hl : vM.view.LoadsAt (Rect.unit (s := S2048x1024) ![o, 0] S256x1024.size h).toLoadRect}
    {kt : Vec F S256x1024 .f32 → Prog (TpuEff nD τ sig (Elt F) Λ₀ .tc) α} :
    A2 m c k ⊢ iprop((A2 m c k -∗ WP c Q (kt (X m c k))) -∗ WP c Q (.op (.load vM (Rect.unit (s := S2048x1024) ![o, 0] S256x1024.size h).toLoadRect hl) kt)) := by
  subst ho
  unfold A2 vP
  iintro ⟨Hx, ⟨%f, %hf, Hv⟩, Hs⟩ Hk
  iapply (wp_load_rect 𝒱₀ (c : Thread nD τ) none Set.univ (m := vM) (r := rV k) (Finset.Subset.refl _)) $$ Hv
  iintro Hv
  rw [← hf]
  iapply Hk
  isplitl [Hx]; · iexact Hx
  isplitl [Hv]
  · iexists f; isplitr; · (ipureintro; rfl)
    iexact Hv
  iexact Hs

/-- A load of the chunk about to be overwritten: its value is not used. -/
theorem step_deadc (o : ℕ) (ho : o = 256 * k.val) {h : IC 0 o} {hl : cM.view.LoadsAt (Rect.unit (s := S2x2048x1024) ![0, o, 0] S1x256x1024.size h).toLoadRect}
    {kt : Prog (TpuEff nD τ sig (Elt F) Λ₀ .tc) α} :
    B0 (F := F) c k ⊢ iprop((B0 c k -∗ WP c Q kt) -∗ WP c Q (.op (.load cM (Rect.unit (s := S2x2048x1024) ![0, o, 0] S1x256x1024.size h).toLoadRect hl) (fun _ => kt))) := by
  subst ho
  unfold B0 cP
  iintro ⟨⟨%f, Hc⟩, Hr⟩ Hk
  iapply (wp_load_rect 𝒱₀ (c : Thread nD τ) none Set.univ (m := cM) (r := rC 0 k) (Finset.Subset.refl _)) $$ Hc
  iintro Hc
  iapply Hk
  isplitl [Hc]; · iexists f; iexact Hc
  iexact Hr

/-- The quantised chunk is stored. -/
theorem step_storec (o : ℕ) (ho : o = 256 * k.val) {h : IC 0 o} {w : IVec S1x256x1024 8} (hw : w = Y m c k)
    {hx : (cM.access (Rect.unit (s := S2x2048x1024) ![0, o, 0] S1x256x1024.size h)).Stores Finset.univ} {hm}
    {kt : PUnit → Prog (TpuEff nD τ sig (Elt F) Λ₀ .tc) α} :
    B0 (F := F) c k ⊢ iprop((B1 m c k -∗ WP c Q (kt ⟨⟩))
      -∗ WP c Q (.op (.store cM (Rect.unit (s := S2x2048x1024) ![0, o, 0] S1x256x1024.size h) w Finset.univ hx hm) kt)) := by
  subst ho; subst hw
  unfold B0 B1 cP
  iintro ⟨⟨%f, Hc⟩, Hr⟩ Hk
  iapply (wp_store 𝒱₀ (c : Thread nD τ) none Set.univ (m := cM) (r := rC 0 k) (Mk := Finset.univ) (S := (cV 0 k).set) (f := f) (w := Y m c k) (Finset.Subset.refl _)) $$ Hc
  iintro Hc
  iapply Hk
  isplitl [Hc]
  · iexists ((cV 0 k).write (Elt F) f (Y m c k) Finset.univ); isplitr; · (ipureintro; exact View.read_write_univ _ _)
    iexact Hc
  iexact Hr

/-- The chunk a send lands reads as the chunk sent. -/
theorem landed_read (fd fs : (cc0_scratch1 : Ref sig .tc).ty.Contents (Elt F)) :
    (cV 1 k).read (Elt F) (((cV 1 k).reshape S256x1024 nE).write (Elt F) fd (((cV 0 k).reshape S256x1024 nE).read (Elt F) fs) Finset.univ)
      = (cV 0 k).read (Elt F) fs := by
  funext y
  obtain ⟨x, rfl⟩ := (Shape.reshapeEquiv nE).surjective y
  rw [View.read_write_reshape]
  rfl

/-- The send of a quantised chunk is started: the landing is no longer owed. -/
theorem step_send (o : ℕ) (ho : o = 256 * k.val) (n : ℕ) (hn : ck n = k) {d : Dev nD} (hd : d = tg c) {s1 s2 : DmaSem sig} (hs1 : s1 = sendS k) (hs2 : s2 = recvS k)
    {h1 : IC 0 o} {h2 : IC 1 o} {hsc : (cB 1 o h2 : Memref sig (Dev.tc d : Thread nD τ).2.kind .vmem S256x1024 .i8).view.ref.isScScratch = false}
    {e1 : (cB 0 o h1).view.WordExact} {e2 : (cB 1 o h2).view.WordExact}
    {e3 : (DmaTarget.remote (nD := nD) (τ := τ) (p := .tc) (Dev.tc d : Thread nD τ) (cB 1 o h2) (.dma s1) hsc).Typed .vmem (.dma s2)}
    {kt : PUnit → Prog (TpuEff nD τ sig (Elt F) Λ₀ .tc) α} :
    iprop(records m K ∗ B1 m c k ∗ D (tg c) k ∗ OW c (owR c (n + 1)))
      ⊢ iprop(((B2 c k ∗ OW c (owR c n)) -∗ WP c Q (kt ⟨⟩))
        -∗ WP c Q (.op (.enqueueDma (cB 0 o h1) (.remote (Dev.tc d : Thread nD τ) (cB 1 o h2) (.dma s1) hsc) (.dma s2) e1 e2 e3) kt)) := by
  subst ho; subst hd; subst hs1; subst hs2
  have hA : (cB 0 (256 * k.val) h1).view.set = (cV 0 k).set := View.set_reshape _ _
  have hB : (cB 1 (256 * k.val) h2).view.set = (cV 1 k).set := View.set_reshape _ _
  unfold B1 B2 D tk OW
  iintro ⟨#HR, ⟨⟨%f, %hf, Hc⟩, ⟨Ht1, Ht2⟩, Hat⟩, ⟨%g, Hd⟩, ⟨%W, HO⟩⟩ Hk
  iapply (Rounds.wp_send_pointsTo 𝒱₀ ER (sched m) (c : Thread nD τ) none (κ₁ := K (c, .inr (false, k))) (κ₂ := K (tg c, .inr (true, k)))
    (c' := (tg c : Thread nD τ)) (src := cB 0 (256 * k.val) h1) (dst := cB 1 (256 * k.val) h2) (sS := .dma (sendS k)) (sem := .dma (recvS k)) (q := fullShare)
    (r₁ := 0) (r₂ := 0) (d₁ := false) (d₂ := false) (fs := f) (fd := g)
    (by rw [duties_snd]; exact Finset.mem_singleton_self _) (by rw [duties_rcv]; exact Finset.mem_singleton_self _)
    () () N rfl (amount_dma m c _ false) (amount_dma m (tg c) _ false) (O₀ := owR c (n + 1)) (owR c n) (by rw [← hn]; rfl) (W := W)
    (by
      rw [payload_snd, hA]; unfold sendPay cP
      iintro H; iexists f; iexact H)
    (by
      rw [payload_rcv, hB]; unfold recvPay cP
      rw [fr_tg]
      iintro H; iexists (((cV 1 k).reshape S256x1024 nE).write (Elt F) g (((cV 0 k).reshape S256x1024 nE).read (Elt F) f) Finset.univ); isplitr
      · ipureintro; exact (landed_read k g f).trans hf
      iexact H)) $$ [Hc Hd HO Ht1 Ht2]
  · isplitr; · iapply (inv_at m K (c, .inr (false, k))); iexact HR
    isplitr; · iapply (inv_at m K (tg c, .inr (true, k))); iexact HR
    isplitl [Hc]; · rw [hA]; unfold cP; iexact Hc
    isplitl [Hd]; · rw [hB]; unfold cP; iexact Hd
    isplitl [HO]; · iexact HO
    isplitl [Ht1]; · iexact Ht1
    isplitr; · iapply (reached_at m K (c, .inr (false, k))); iexact HR
    isplitl [Ht2]; · iexact Ht2
    iapply (reached_at m K (tg c, .inr (true, k))); iexact HR
  iintro ⟨Hcr, HO⟩
  iapply Hk
  isplitr [HO]
  · isplitl [Hcr] <;> iassumption
  iexists _; iexact HO

/-- A chunk has arrived: the receive cell closes. -/
theorem step_recvwait (o : ℕ) {s : DmaSem sig} (hs : s = recvS k) {sp : Space} {s' : Shape} {e' : EltTy} {sw : Memref sig .tc sp s' e'} {h : IC 1 o}
    {e1 : sw.view.WordExact} {e2 : (cB 1 o h).view.WordExact} {kt : PUnit → Prog (TpuEff nD τ sig (Elt F) Λ₀ .tc) α} :
    iprop(records m K ∗ R0 c k ∗ OW c 0)
      ⊢ iprop(((R1 m c k ∗ OW c 0) -∗ WP c Q (kt ⟨⟩)) -∗ WP c Q (.op (.waitDma2 s sw (cB 1 o h) e1 e2) kt)) := by
  subst hs
  have hc : (cB 1 o h).view.dmaCredit = N := rfl
  unfold R0 R1 OW
  iintro ⟨#HR, ⟨Hcr, Hat⟩, ⟨%W, HO⟩⟩ Hk
  ihave #HI := (inv_at m K (c, .inr (true, k))) $$ HR
  iapply (Rounds.wp_wait_rest_token 𝒱₀ ER (sched m) (c : Thread nD τ) none (κ := K (c, .inr (true, k))) (sm := .dma (recvS k)) (k' := N)
      (fun P => (wpE_waitDma2_eq 𝒱₀ (c : Thread nD τ) none Set.univ P).trans (congrArg (fun n => waitSpec (c : Thread nD τ) Set.univ _ n P) hc)) (Set.mem_univ _) () (O := 0) (W := W) (R := 0) (m := 0) (T := ∅)
      (by rw [Nat.zero_add, expect_rcv])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_rcv m c k)) $$ Hpay
  imod (Rounds.cell_close ER (sched m) (Set.mem_univ (K (c, .inr (true, k)))) (fun h => h) (R := 0 + 1) (duties_later m (rcv c k))) $$ [Hat] with Hz
  · isplitr; · iexact HI
    iexact Hat
  iapply Hk
  isplitr [HO]
  · isplitl [Hp] <;> iassumption
  iexists _; iexact HO

/-- The end of a chunk's send: the send cell closes. -/
theorem step_sendwait (o : ℕ) {s : DmaSem sig} (hs : s = sendS k) {sp : Space} {s' : Shape} {e' : EltTy} {sw : Memref sig .tc sp s' e'} {h : IC 0 o}
    {e1 : sw.view.WordExact} {e2 : (cB 0 o h).view.WordExact} {kt : PUnit → Prog (TpuEff nD τ sig (Elt F) Λ₀ .tc) α} :
    iprop(records m K ∗ B2 c k ∗ OW c 0)
      ⊢ iprop(((B3 c k ∗ OW c 0) -∗ WP c Q (kt ⟨⟩)) -∗ WP c Q (.op (.waitDma2 s sw (cB 0 o h) e1 e2) kt)) := by
  subst hs
  have hc : (cB 0 o h).view.dmaCredit = N := rfl
  unfold B2 B3 OW
  iintro ⟨#HR, ⟨Hcr, Hat⟩, ⟨%W, HO⟩⟩ Hk
  ihave #HI := (inv_at m K (c, .inr (false, k))) $$ HR
  iapply (Rounds.wp_wait_rest_token 𝒱₀ ER (sched m) (c : Thread nD τ) none (κ := K (c, .inr (false, k))) (sm := .dma (sendS k)) (k' := N)
      (fun P => (wpE_waitDma2_eq 𝒱₀ (c : Thread nD τ) none Set.univ P).trans (congrArg (fun n => waitSpec (c : Thread nD τ) Set.univ _ n P) hc)) (Set.mem_univ _) () (O := 0) (W := W) (R := 0) (m := 0) (T := ∅)
      (by rw [Nat.zero_add, expect_snd])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_snd m c k)) $$ Hpay
  imod (Rounds.cell_close ER (sched m) (Set.mem_univ (K (c, .inr (false, k)))) (fun h => h) (R := 0 + 1) (duties_later m (snd c k))) $$ [Hat] with Hz
  · isplitr; · iexact HI
    iexact Hat
  iapply Hk
  isplitr [HO]
  · isplitl [Hp]; · unfold sendPay; iexact Hp
    iexact Hz
  iexists _; iexact HO

/-- The received chunk is loaded. -/
theorem step_loadc (o : ℕ) (ho : o = 256 * k.val) {h : IC 1 o} {hl : cM.view.LoadsAt (Rect.unit (s := S2x2048x1024) ![1, o, 0] S1x256x1024.size h).toLoadRect}
    {kt : Vec F S1x256x1024 .i8 → Prog (TpuEff nD τ sig (Elt F) Λ₀ .tc) α} :
    R1 m c k ⊢ iprop((R1 m c k -∗ WP c Q (kt (Y m (fr c) k))) -∗ WP c Q (.op (.load cM (Rect.unit (s := S2x2048x1024) ![1, o, 0] S1x256x1024.size h).toLoadRect hl) kt)) := by
  subst ho
  unfold R1 recvPay cP
  iintro ⟨⟨%f, %hf, Hv⟩, Hs⟩ Hk
  iapply (wp_load_rect 𝒱₀ (c : Thread nD τ) none Set.univ (m := cM) (r := rC 1 k) (Finset.Subset.refl _)) $$ Hv
  iintro Hv
  rw [← hf]
  iapply Hk
  isplitl [Hv]
  · iexists f; isplitr; · (ipureintro; rfl)
    iexact Hv
  iexact Hs

/-- A load of the result chunk about to be overwritten: its value is not used. -/
theorem step_deadw (o : ℕ) (ho : o = 256 * k.val) {h : IV o} {hl : wM.view.LoadsAt (Rect.unit (s := S2048x1024) ![o, 0] S256x1024.size h).toLoadRect}
    {kt : Prog (TpuEff nD τ sig (Elt F) Λ₀ .tc) α} :
    S0 (F := F) c k ⊢ iprop((S0 c k -∗ WP c Q kt) -∗ WP c Q (.op (.load wM (Rect.unit (s := S2048x1024) ![o, 0] S256x1024.size h).toLoadRect hl) (fun _ => kt))) := by
  subst ho
  unfold S0 wP
  iintro ⟨⟨%f, Hc⟩, Hr⟩ Hk
  iapply (wp_load_rect 𝒱₀ (c : Thread nD τ) none Set.univ (m := wM) (r := rV k) (Finset.Subset.refl _)) $$ Hc
  iintro Hc
  iapply Hk
  isplitl [Hc]; · iexists f; iexact Hc
  iexact Hr

/-- The chunk scaled back is stored. -/
theorem step_storew (o : ℕ) (ho : o = 256 * k.val) {h : IV o} {w : FVec F S256x1024 .bf16} (hw : w = Z m c k)
    {hx : (wM.access (Rect.unit (s := S2048x1024) ![o, 0] S256x1024.size h)).Stores Finset.univ} {hm}
    {kt : PUnit → Prog (TpuEff nD τ sig (Elt F) Λ₀ .tc) α} :
    S0 (F := F) c k ⊢ iprop((S1' m c k -∗ WP c Q (kt ⟨⟩))
      -∗ WP c Q (.op (.store wM (Rect.unit (s := S2048x1024) ![o, 0] S256x1024.size h) w Finset.univ hx hm) kt)) := by
  subst ho; subst hw
  unfold S0 S1' wP
  iintro ⟨⟨%f, Hc⟩, Hr⟩ Hk
  iapply (wp_store 𝒱₀ (c : Thread nD τ) none Set.univ (m := wM) (r := rV k) (Mk := Finset.univ) (S := (wV k).set) (f := f) (w := Z m c k) (Finset.Subset.refl _)) $$ Hc
  iintro Hc
  iapply Hk
  isplitl [Hc]
  · iexists ((wV k).write (Elt F) f (Z m c k) Finset.univ); isplitr; · (ipureintro; exact View.read_write_univ _ _)
    iexact Hc
  iexact Hr

/-- The copy of a chunk of the result is started. -/
theorem step_out (o : ℕ) (ho : o = 256 * k.val) {s : DmaSem sig} (hs : s = outS k) {h1 : IX o} {h2 : IV o}
    {e1 : (oB o h1).view.WordExact} {e2 : (wB o h2).view.WordExact} {e3 : (DmaTarget.here (nD := nD) (τ := τ) (p := .tc) (oB o h1)).Typed .vmem (.dma s)}
    {kt : PUnit → Prog (TpuEff nD τ sig (Elt F) Λ₀ .tc) α} :
    S1' m c k ⊢ iprop((S2' m c k -∗ WP c Q (kt ⟨⟩)) -∗ WP c Q (.op (.enqueueDma (wB o h2) (.here (oB o h1)) (.dma s) e2 e1 e3) kt)) := by
  subst ho; subst hs
  have hx : (oB (256 * k.val) h1).view.set = (oV k).set := View.set_reshape _ _
  unfold S1' S2' oP wP
  iintro ⟨⟨%g, %hg, Hw⟩, ⟨%f, Ho⟩, Hs⟩ Hk
  iapply (Transfers.wp_dmaLocal EC 𝒱₀ (c : Thread nD τ) none (sm := .dma (outS k))
    (src := wB (256 * k.val) h2) (dst := oB (256 * k.val) h1) (Sd := (oV k).set)
    (q := fullShare) (fs := g) (fd := f) () outN rfl (View.dmaCredit_pos _ (by decide)) (fun i hi => hx ▸ hi)) $$ [Hw Ho Hs]
  · isplitl [Hw]; · iexact Hw
    isplitl [Ho] <;> iassumption
  iintro H
  iapply Hk
  iexists f; iexists g
  rw [← hg]
  iexact H

/-- It has landed. -/
theorem step_outwait (o : ℕ) {s : DmaSem sig} (hs : s = outS k) {sp : Space} {s' : Shape} {e' : EltTy} {sw : Memref sig .tc sp s' e'} {h : IX o}
    {e1 : sw.view.WordExact} {e2 : (oB o h).view.WordExact} {kt : PUnit → Prog (TpuEff nD τ sig (Elt F) Λ₀ .tc) α} :
    iprop(S2' m c k ∗ OW c 0)
      ⊢ iprop(((S3' m c k ∗ OW c 0) -∗ WP c Q (kt ⟨⟩)) -∗ WP c Q (.op (.waitDma2 s sw (oB o h) e1 e2) kt)) := by
  subst hs
  unfold S2' S3' OW
  iintro ⟨⟨%f, %g, Hf⟩, ⟨%W, HO⟩⟩ Hk
  iapply (Transfers.wp_waitLocalO EC 𝒱₀ (c : Thread nD τ) none () (N := outN) (show (oB o h).view.dmaCredit = outN from rfl)) $$ [Hf HO]
  · isplitl [Hf]; · iexact Hf
    isplitl [HO]; · iexact HO
    rw [MayWait_zero]; iempintro
  iintro ⟨⟨Ho, Hw⟩, Hs, HO⟩
  iapply Hk
  isplitr [HO]
  · isplitl [Hw]; · iexists g; iexact Hw
    isplitl [Ho]
    · iexists (((oV k).reshape S256x1024 nE).write (Elt F) f (Z m c k) Finset.univ); isplitr; · (ipureintro; exact View.read_write_univ _ _)
      iexact Ho
    iexact Hs
  iexists _; iexact HO

end Rules

end Cert.KernelIdeal.Perm

end
-- ==== Proof.Table.lean ====
/-
# The table and the handshake

The body's other operations: the loads of the words of the table, the two signals and the wait on the barrier; and
that with the table `(i + 15) % 16` the devices the body addresses are `tg c` and `fr c`.
-/
module

public import proofs.«01_k».proof.Proof.Steps

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The table -/

/-- Word `n` of the table. -/
abbrev wd (n : ℕ) : BitVec 32 := BitVec.ofNat 32 ((n + 15) % 16)

/-- What the proof asks of the launch memory: every device's table is that of the permutation. -/
def PreOK : Prop := ∀ (c : Dev nD) (i : S16.Idx), (m ((c : Thread nD τ).loc main_arg1) : IVec S16 32) i = wd (i 0).val

/-- The staged table. -/
abbrev tM : Memref sig .tc .smem S16 .i32 := Memref.whole cc0_stg0_0

/-- The table as staged. -/
def tstg (c : Dev nD) : (cc0_stg0_0 : Ref sig .tc).ty.Contents (Elt F) :=
  (win0_0.blk (0 : Fin 1)).view.read (Elt F) (m ((c : Thread nD τ).loc main_arg1))

/-- The staged table. -/
def TB (c : Dev nD) : sProp (MT nD τ sig Unit (Elt F) ℕ UU ℕ) := ((c : Thread nD τ).loc cc0_stg0_0) ↦{fullShare} tstg m c

variable {m}

/-- A word read of it. -/
theorem word_read (hpre : PreOK m) (c : Dev nD) {o : Fin 1 → ℕ} {h : ∀ a, o a + S1.size a ≤ S16.size a} {n : ℕ} (hn : o 0 = n) :
    ((tM.access (Rect.unit (s := S16) o S1.size h)).read (Elt F) (tstg m c) : IVec S1 32) = fun _ => wd n := by
  subst hn
  funext x
  have e := hpre c ((Rect.unit (s := S16) o S1.size h).emb x)
  refine Eq.trans (show _ = (m ((c : Thread nD τ).loc main_arg1) : IVec S16 32) ((Rect.unit (s := S16) o S1.size h).emb x) from ?_) (e.trans ?_)
  · show (m ((c : Thread nD τ).loc main_arg1) : IVec S16 32) _ = _
    refine congrArg _ (funext fun a => Fin.ext ?_)
    fin_cases a
    show 0 * 16 + 1 * _ = _
    rw [Nat.zero_mul, Nat.zero_add, Nat.one_mul]; rfl
  · have hx : (x 0).val = 0 := by have := (x 0).isLt; exact Nat.lt_one_iff.mp this
    have : (((Rect.unit (s := S16) o S1.size h).emb x) 0).val = o 0 := by
      show o 0 + 1 * (x 0).val = o 0
      rw [hx]; rfl
    rw [this]

section Rules

variable {α : Type} {Q : α → sProp (MT nD τ sig Unit (Elt F) ℕ UU ℕ)}
variable (m) (K : Dev nD × J → ℕ) (c : Dev nD)

/-- The end of a program. -/
theorem step_ret {a : α} : Q a ⊢ WP c Q (.ret a) := by
  show Q a ⊢ wp frame (wpE (defs₀ (F := F)) 𝒱₀ (c : Thread nD τ) none) Set.univ (.ret a) Q
  rw [wp_ret]; exact fupd_intro

/-- A load of a word of the table. -/
theorem step_word (hpre : PreOK m) (n : ℕ) {o : Fin 1 → ℕ} {h : ∀ a, o a + S1.size a ≤ S16.size a} (hn : o 0 = n)
    {hl : tM.view.LoadsAt (Rect.unit (s := S16) o S1.size h).toLoadRect}
    {kt : Vec F S1 .i32 → Prog (TpuEff nD τ sig (Elt F) Λ₀ .tc) α} :
    TB m c ⊢ iprop((TB m c -∗ WP c Q (kt (fun _ => wd n))) -∗ WP c Q (.op (.load tM (Rect.unit (s := S16) o S1.size h).toLoadRect hl) kt)) := by
  unfold TB
  iintro Ht Hk
  iapply (wp_load_rect 𝒱₀ (c : Thread nD τ) none Set.univ (m := tM) (r := Rect.unit (s := S16) o S1.size h) (Finset.subset_univ _)) $$ Ht
  iintro Ht
  rw [show ((tM.access (Rect.unit (s := S16) o S1.size h)).read (Elt F) (tstg m c)) = (fun _ => wd n : Vec F S1 .i32) from word_read hpre c hn]
  iapply Hk; iexact Ht

/-- The first signal, to the device `c` sends to. -/
theorem step_sig1 {d : Dev nD} (hd : d = tg c) {n : Int} (hn : n = 1) {kt : PUnit → Prog (TpuEff nD τ sig (Elt F) Λ₀ .tc) α} :
    iprop(records m K ∗ OW c (O₀ c) ∗ dutyTok ER (bar (tg c)) 0 false)
      ⊢ iprop((OW c (O₁ c) -∗ WP c Q (kt ⟨⟩)) -∗ WP c Q (.op (.semSignal (Dev.tc d : Thread nD τ) barS n) kt)) := by
  subst hd; subst hn
  unfold OW
  iintro ⟨#HR, ⟨%W, HO⟩, Ht⟩ Hk
  iapply (Rounds.wp_signal 𝒱₀ ER (sched m) (c : Thread nD τ) none (dst := (tg c : Thread nD τ)) (κ := K (tg c, .inl ())) (r := 0) (k' := 1)
      (d := false) (by rw [duties_bar]; exact Finset.mem_univ _) (amount_bar m (tg c) false) () (O₀ := O₀ c) (O₁ c) rfl)
    $$ [HO Ht]
  · isplitr; · iapply (inv_at m K (tg c, .inl ())); iexact HR
    isplitl [HO]; · iexact HO
    isplitl [Ht]; · iexact Ht
    isplitr; · rw [payload_bar_false]; iempintro
    iapply (reached_at m K (tg c, .inl ())); iexact HR
  iintro HO
  iapply Hk; iexists W; iexact HO

/-- The second, to the device `c` receives from, with `c`'s landing chunks. -/
theorem step_sig2 {d : Dev nD} (hd : d = fr c) {n : Int} (hn : n = 1) {kt : PUnit → Prog (TpuEff nD τ sig (Elt F) Λ₀ .tc) α} :
    iprop(records m K ∗ OW c (O₁ c) ∗ dutyTok ER (bar (fr c)) 0 true ∗ bigSep Finset.univ fun k : Fin 8 => D (F := F) c k)
      ⊢ iprop((OW c (owR c 8) -∗ WP c Q (kt ⟨⟩)) -∗ WP c Q (.op (.semSignal (Dev.tc d : Thread nD τ) barS n) kt)) := by
  subst hd; subst hn
  unfold OW
  iintro ⟨#HR, ⟨%W, HO⟩, Ht, HD⟩ Hk
  iapply (Rounds.wp_signal 𝒱₀ ER (sched m) (c : Thread nD τ) none (dst := (fr c : Thread nD τ)) (κ := K (fr c, .inl ())) (r := 0) (k' := 1)
      (d := true) (by rw [duties_bar]; exact Finset.mem_univ _) (amount_bar m (fr c) true) () (O₀ := O₁ c) (owR c 8) rfl)
    $$ [HO Ht HD]
  · isplitr; · iapply (inv_at m K (fr c, .inl ())); iexact HR
    isplitl [HO]; · iexact HO
    isplitl [Ht]; · iexact Ht
    isplitl [HD]
    · rw [payload_bar_true]; unfold barPay D; rw [tg_fr]; iexact HD
    iapply (reached_at m K (fr c, .inl ())); iexact HR
  iintro HO
  iapply Hk; iexists W; iexact HO

/-- The wait for both neighbours: the landing chunks of the device `c` sends to come with it; the cell closes. -/
theorem step_barwait {n : Int} (hn : n = 2) {kt : PUnit → Prog (TpuEff nD τ sig (Elt F) Λ₀ .tc) α} :
    iprop(records m K ∗ levAts L lv ∗ OW c (owR c 8) ∗ cred (tallyAt (bar c) () 2) ∗ atPos ER (bar c) 0 ∅ 0)
      ⊢ iprop(((OW c (owR c 8) ∗ (bigSep Finset.univ fun k : Fin 8 => D (F := F) (tg c) k) ∗ semVal (bar c) 0) -∗ WP c Q (kt ⟨⟩))
        -∗ WP c Q (.op (.semWait barS n) kt)) := by
  subst hn
  unfold OW
  iintro ⟨#HR, #Hl, ⟨%W, HO⟩, Hc, Hat⟩ Hk
  ihave #HI := (inv_at m K (c, .inl ())) $$ HR
  iapply (Rounds.wp_wait_rest_token 𝒱₀ ER (sched m) (c : Thread nD τ) none (κ := K (c, .inl ())) (sm := .reg barS) (k' := 2)
      (wpE_semWait_eq 𝒱₀ (c : Thread nD τ) none Set.univ) (Set.mem_univ _) () (O := owR c 8) (W := W) (R := 0) (m := 0) (T := ∅)
      (by rw [expect_bar])) $$ [Hc HO Hat]
  · isplitr; · iexact HI
    isplitl [Hc]; · iexact Hc
    isplitl [HO]; · iexact HO
    isplitr; · iapply (mayWait_bar c 8); iexact Hl
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (bar c))) $$ [Hat] with Hz
  · isplitr; · iexact HI
    iexact Hat
  icases Hp with ⟨-, Hp⟩
  iapply Hk
  isplitl [HO]; · iexists _; iexact HO
  isplitl [Hp]
  · unfold barPay D; iexact Hp
  iexact Hz

end Rules

/-! ## The devices the body computes -/

/-- The word that a device reads is its own number's. -/
theorem off1_eq (c : Dev nD) : k0_off1 c 0 = c.val := by revert c; decide

/-- A word of the table names the device `tg c`; -/
theorem tg_word (c : Dev nD) : (wd c.val).toNat = (tg c).val := by revert c; decide
/-- The kernel adds nothing to a word of the table and multiplies it by one. -/
theorem dev_word (w : BitVec 32) : (Scalar.addi 0#32 (Scalar.muli w 1#32)).toNat = w.toNat := by
  show (0#32 + w * 1#32).toNat = w.toNat
  rw [BitVec.mul_one, BitVec.zero_add]
/-- The device sent to is one of the mesh. -/
theorem chk1 (c : Dev nD) : k0_chk1 (wd c.val) := by
  have h : (Scalar.addi 0#32 (Scalar.muli (wd c.val) 1#32)).toNat < nD := by rw [dev_word, tg_word]; exact (tg c).isLt
  exact ⟨h, h, h, h, h, h, h, h, h⟩
/-- and so does each address computed from it. -/
theorem dev_tg (c : Dev nD) (n : ℕ) (hn : n = (Scalar.addi 0#32 (Scalar.muli (wd c.val) 1#32)).toNat) (h : n < nD) : (⟨n, h⟩ : Dev nD) = tg c :=
  Fin.ext (hn.trans ((dev_word _).trans (tg_word c)))

/-- The device that the search finds is the one received from. -/
theorem dev2_eq (c : Dev nD) : k0_dev2 c (wd 0) (wd 1) (wd 2) (wd 3) (wd 4) (wd 5) (wd 6) (wd 7) (wd 8) (wd 9) (wd 10) (wd 11) (wd 12) (wd 13) (wd 14) (wd 15) = (fr c).val := by
  revert c; decide
/-- It is one of the mesh. -/
theorem chk2 (c : Dev nD) : k0_chk2 c (wd 0) (wd 1) (wd 2) (wd 3) (wd 4) (wd 5) (wd 6) (wd 7) (wd 8) (wd 9) (wd 10) (wd 11) (wd 12) (wd 13) (wd 14) (wd 15) := by
  unfold k0_chk2; rw [dev2_eq]; exact (fr c).isLt

/-- The device of the second signal. -/
theorem dev_fr (c : Dev nD) (h : k0_dev2 c (wd 0) (wd 1) (wd 2) (wd 3) (wd 4) (wd 5) (wd 6) (wd 7) (wd 8) (wd 9) (wd 10) (wd 11) (wd 12) (wd 13) (wd 14) (wd 15) < nD) :
    (⟨_, h⟩ : Dev nD) = fr c := Fin.ext (dev2_eq c)

end Cert.KernelIdeal.Perm

end
-- ==== Proof.PartsA.lean ====
/-
# The parts of the body: the table and the first copies in
-/
module

public import proofs.«01_k».proof.Proof.Table

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × J → ℕ) (c : Dev nD)

section Parts

variable {Q : PUnit → sProp (MT nD τ sig Unit (Elt F) ℕ UU ℕ)}

/-- The first part: the table's word of the device itself, then words 0 to 9. -/
theorem part1 (hpre : PreOK m) {Q : _ → sProp (MT nD τ sig Unit (Elt F) ℕ UU ℕ)} :
    TB m c ⊢ iprop((∀ (v2 v34 : BitVec 32), TB m c -∗ Q ⟨c, v2, wd c.val, chk1 c, wd 0, wd 1, wd 2, wd 3, wd 4, wd 5, wd 6, wd 7, wd 8, wd 9, v34⟩)
      -∗ WP c Q (k0_part1 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6)) := by
  rw [k0_part1_eq_skeleton]; unfold k0_part1_skel
  simp only [smemLoad, smemLoadElt, Prog.lift, Prog.bind_op, Prog.bind_ret, Prog.pure_eq_ret, Prog.bind_assoc, wp_deviceId]
  iintro Ht Hk
  iapply (step_word m c hpre c.val (off1_eq c)) $$ Ht; iintro Ht
  simp only [wp_assume_of _ _ _ _ (d := k0_chk1.dec _) (chk1 c)]
  iapply (step_word m c hpre 0 rfl) $$ Ht; iintro Ht
  iapply (step_word m c hpre 1 rfl) $$ Ht; iintro Ht
  iapply (step_word m c hpre 2 rfl) $$ Ht; iintro Ht
  iapply (step_word m c hpre 3 rfl) $$ Ht; iintro Ht
  iapply (step_word m c hpre 4 rfl) $$ Ht; iintro Ht
  iapply (step_word m c hpre 5 rfl) $$ Ht; iintro Ht
  iapply (step_word m c hpre 6 rfl) $$ Ht; iintro Ht
  iapply (step_word m c hpre 7 rfl) $$ Ht; iintro Ht
  iapply (step_word m c hpre 8 rfl) $$ Ht; iintro Ht
  iapply (step_word m c hpre 9 rfl) $$ Ht; iintro Ht
  iapply (step_ret c)
  iapply Hk; iexact Ht

/-- Words 10 to 15; the copies in of chunks 0 and 1 are started. -/
theorem part2 (hpre : PreOK m) (v2 v34 : BitVec 32) {Q : _ → sProp (MT nD τ sig Unit (Elt F) ℕ UU ℕ)} :
    iprop(TB m c ∗ A0 m c 0 ∗ A0 m c 1)
      ⊢ iprop((∀ v52 : BitVec 32, (TB m c ∗ A1 m c 0 ∗ A1 m c 1) -∗ Q ⟨wd 10, wd 11, wd 12, wd 13, wd 14, wd 15, chk2 c, v52⟩)
      -∗ WP c Q (k0_part2 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6
          c v2 (wd 0) (wd 1) (wd 2) (wd 3) (wd 4) (wd 5) (wd 6) (wd 7) (wd 8) (wd 9) v34)) := by
  rw [k0_part2_eq_skeleton]; unfold k0_part2_skel
  simp only [smemLoad, smemLoadElt, Prog.lift, Prog.bind_op, Prog.bind_ret, Prog.pure_eq_ret, Prog.bind_assoc, wp_deviceId]
  iintro ⟨Ht, H0, H1⟩ Hk
  iapply (step_word m c hpre 10 rfl) $$ Ht; iintro Ht
  iapply (step_word m c hpre 11 rfl) $$ Ht; iintro Ht
  iapply (step_word m c hpre 12 rfl) $$ Ht; iintro Ht
  iapply (step_word m c hpre 13 rfl) $$ Ht; iintro Ht
  iapply (step_word m c hpre 14 rfl) $$ Ht; iintro Ht
  iapply (step_word m c hpre 15 rfl) $$ Ht; iintro Ht
  simp only [wp_assume_of _ _ _ _ (d := k0_chk2.dec _ _ _ _ _ _ _ _ _ _ _ _ _ _ _ _ _) (chk2 c)]
  iapply (step_in m c 0 0 rfl rfl) $$ H0; iintro H0
  iapply (step_in m c 1 256 rfl rfl) $$ H1; iintro H1
  iapply (step_ret c)
  iapply Hk
  isplitl [Ht]; · iexact Ht
  isplitl [H0] <;> iassumption

end Parts

end Cert.KernelIdeal.Perm

end
-- ==== Proof.PartsB.lean ====
/-
# The parts of the body: the handshake and the first sends
-/
module

public import proofs.«01_k».proof.Proof.Table

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × J → ℕ) (c : Dev nD)

section Parts

variable {Q : PUnit → sProp (MT nD τ sig Unit (Elt F) ℕ UU ℕ)}

/-- The copies in of chunks 2 to 6 are started. -/
theorem part3 :
    iprop(A0 m c 2 ∗ A0 m c 3 ∗ A0 m c 4 ∗ A0 m c 5 ∗ A0 m c 6)
      ⊢ iprop(((A1 m c 2 ∗ A1 m c 3 ∗ A1 m c 4 ∗ A1 m c 5 ∗ A1 m c 6) -∗ Q ⟨⟩) -∗ WP c Q (k0_part3 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6)) := by
  rw [k0_part3_eq_skeleton]; unfold k0_part3_skel
  simp only [Prog.lift, Prog.bind_op, Prog.bind_ret, Prog.pure_eq_ret]
  iintro ⟨H2, H3, H4, H5, H6⟩ Hk
  iapply (step_in m c 2 512 rfl rfl) $$ H2; iintro H2
  iapply (step_in m c 3 768 rfl rfl) $$ H3; iintro H3
  iapply (step_in m c 4 1024 rfl rfl) $$ H4; iintro H4
  iapply (step_in m c 5 1280 rfl rfl) $$ H5; iintro H5
  iapply (step_in m c 6 1536 rfl rfl) $$ H6; iintro H6
  iapply (step_ret c); iapply Hk
  isplitl [H2]; · iexact H2
  isplitl [H3]; · iexact H3
  isplitl [H4]; · iexact H4
  isplitl [H5] <;> iassumption

/-- The copy in of chunk 7 is started, the neighbours are told and waited for, and chunk 0 is quantised. -/
theorem part4 (v52 : BitVec 32) :
    iprop((records m K ∗ levAts L lv) ∗ A0 m c 7 ∗ OW c (O₀ c) ∗ dutyTok ER (bar (tg c)) 0 false ∗ dutyTok ER (bar (fr c)) 0 true
        ∗ (bigSep Finset.univ fun k : Fin 8 => D (F := F) c k) ∗ cred (tallyAt (bar c) () 2) ∗ atPos ER (bar c) 0 ∅ 0 ∗ A1 m c 0 ∗ B0 c 0)
      ⊢ iprop(((A1 m c 7 ∗ OW c (owR c 8) ∗ (bigSep Finset.univ fun k : Fin 8 => D (F := F) (tg c) k) ∗ semVal (bar c) 0 ∗ A2 m c 0 ∗ B1 m c 0) -∗ Q ⟨⟩)
        -∗ WP c Q (k0_part4 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6
          c (wd c.val) (chk1 c) (wd 0) (wd 1) (wd 2) (wd 3) (wd 4) (wd 5) (wd 6) (wd 7) (wd 8) (wd 9) (wd 10) (wd 11) (wd 12) (wd 13) (wd 14) (wd 15) (chk2 c) v52)) := by
  rw [k0_part4_eq_skeleton]; unfold k0_part4_skel
  simp only [semSignalWord, semWaitWord, Prog.lift, Prog.bind_op, Prog.bind_ret, Prog.pure_eq_ret]
  iintro ⟨⟨#HR, #Hl⟩, H7, HO, Ht1, Ht2, HD, Hc, Hat, HA, HB⟩ Hk
  iapply (step_in m c 7 1792 rfl rfl) $$ H7; iintro H7
  iapply (step_sig1 m K c (dev_tg c _ rfl _) rfl) $$ [HO Ht1]
  · isplitr; · iexact HR
    isplitl [HO] <;> iassumption
  iintro HO
  iapply (step_sig2 m K c (dev_fr c _) rfl) $$ [HO Ht2 HD]
  · isplitr; · iexact HR
    isplitl [HO]; · iexact HO
    isplitl [Ht2] <;> iassumption
  iintro HO
  iapply (step_barwait m K c rfl) $$ [HO Hc Hat]
  · isplitr; · iexact HR
    isplitr; · iexact Hl
    isplitl [HO]; · iexact HO
    isplitl [Hc] <;> iassumption
  iintro ⟨HO, HD, Hz⟩
  iapply (step_inwait m c 0 0 rfl 8) $$ [HA HO]
  · isplitr; · iexact Hl
    isplitl [HA] <;> iassumption
  iintro ⟨HA, HO⟩
  iapply (step_loadv m c 0 0 rfl) $$ HA; iintro HA
  iapply (step_deadc c 0 0 rfl) $$ HB; iintro HB
  iapply (step_storec m c 0 0 rfl rfl) $$ HB; iintro HB
  iapply (step_ret c); iapply Hk
  isplitl [H7]; · iexact H7
  isplitl [HO]; · iexact HO
  isplitl [HD]; · iexact HD
  isplitl [Hz]; · iexact Hz
  isplitl [HA] <;> iassumption

/-- Chunk 0 is sent, chunk 1 quantised. -/
theorem part5 :
    iprop((records m K ∗ levAts L lv) ∗ OW c (owR c 8) ∗ B1 m c 0 ∗ D (F := F) (tg c) 0 ∗ A1 m c 1 ∗ B0 c 1)
      ⊢ iprop(((OW c (owR c 7) ∗ B2 c 0 ∗ A2 m c 1 ∗ B1 m c 1) -∗ Q ⟨⟩) -∗ WP c Q (k0_part5 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c))) := by
  rw [k0_part5_eq_skeleton]; unfold k0_part5_skel
  simp only [Prog.lift, Prog.bind_op, Prog.bind_ret, Prog.pure_eq_ret]
  iintro ⟨⟨#HR, #Hl⟩, HO, HS, HD, HA, HB⟩ Hk
  iapply (step_send m K c 0 0 rfl 7 rfl (dev_tg c _ rfl _) rfl rfl) $$ [HS HD HO]
  · isplitr; · iexact HR
    isplitl [HS]; · iexact HS
    isplitl [HD] <;> iassumption
  iintro ⟨HS, HO⟩
  iapply (step_inwait m c 1 256 rfl 7) $$ [HA HO]
  · isplitr; · iexact Hl
    isplitl [HA] <;> iassumption
  iintro ⟨HA, HO⟩
  iapply (step_loadv m c 1 256 rfl) $$ HA; iintro HA
  iapply (step_deadc c 1 256 rfl) $$ HB; iintro HB
  iapply (step_storec m c 1 256 rfl rfl) $$ HB; iintro HB
  iapply (step_ret c); iapply Hk
  isplitl [HO]; · iexact HO
  isplitl [HS]; · iexact HS
  isplitl [HA] <;> iassumption

/-- Chunk 1 is sent, chunk 2 quantised. -/
theorem part6 :
    iprop((records m K ∗ levAts L lv) ∗ OW c (owR c 7) ∗ B1 m c 1 ∗ D (F := F) (tg c) 1 ∗ A1 m c 2 ∗ B0 c 2)
      ⊢ iprop(((OW c (owR c 6) ∗ B2 c 1 ∗ A2 m c 2 ∗ B1 m c 2) -∗ Q ⟨⟩) -∗ WP c Q (k0_part6 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c))) := by
  rw [k0_part6_eq_skeleton]; unfold k0_part6_skel
  simp only [Prog.lift, Prog.bind_op, Prog.bind_ret, Prog.pure_eq_ret]
  iintro ⟨⟨#HR, #Hl⟩, HO, HS1, HD1, HA2, HS2⟩ Hk
  iapply (step_send m K c 1 256 rfl 6 rfl (dev_tg c _ rfl _) rfl rfl) $$ [HS1 HD1 HO]
  · isplitr; · iexact HR
    isplitl [HS1]; · iexact HS1
    isplitl [HD1] <;> iassumption
  iintro ⟨HS1, HO⟩
  iapply (step_inwait m c 2 512 rfl 6) $$ [HA2 HO]
  · isplitr; · iexact Hl
    isplitl [HA2] <;> iassumption
  iintro ⟨HA2, HO⟩
  iapply (step_loadv m c 2 512 rfl) $$ HA2; iintro HA2
  iapply (step_deadc c 2 512 rfl) $$ HS2; iintro HS2
  iapply (step_storec m c 2 512 rfl rfl) $$ HS2; iintro HS2
  iapply (step_ret c); iapply Hk
  isplitl [HO]; · iexact HO
  isplitl [HS1]; · iexact HS1
  isplitl [HA2] <;> iassumption

/-- Chunk 2 is sent, chunk 3 quantised and sent. -/
theorem part7 :
    iprop((records m K ∗ levAts L lv) ∗ OW c (owR c 6) ∗ B1 m c 2 ∗ D (F := F) (tg c) 2 ∗ A1 m c 3 ∗ B0 c 3 ∗ D (F := F) (tg c) 3)
      ⊢ iprop(((OW c (owR c 4) ∗ B2 c 2 ∗ A2 m c 3 ∗ B2 c 3) -∗ Q ⟨⟩) -∗ WP c Q (k0_part7 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c))) := by
  rw [k0_part7_eq_skeleton]; unfold k0_part7_skel
  simp only [Prog.lift, Prog.bind_op, Prog.bind_ret, Prog.pure_eq_ret]
  iintro ⟨⟨#HR, #Hl⟩, HO, HS2, HD2, HA3, HS3, HD3⟩ Hk
  iapply (step_send m K c 2 512 rfl 5 rfl (dev_tg c _ rfl _) rfl rfl) $$ [HS2 HD2 HO]
  · isplitr; · iexact HR
    isplitl [HS2]; · iexact HS2
    isplitl [HD2] <;> iassumption
  iintro ⟨HS2, HO⟩
  iapply (step_inwait m c 3 768 rfl 5) $$ [HA3 HO]
  · isplitr; · iexact Hl
    isplitl [HA3] <;> iassumption
  iintro ⟨HA3, HO⟩
  iapply (step_loadv m c 3 768 rfl) $$ HA3; iintro HA3
  iapply (step_deadc c 3 768 rfl) $$ HS3; iintro HS3
  iapply (step_storec m c 3 768 rfl rfl) $$ HS3; iintro HS3
  iapply (step_send m K c 3 768 rfl 4 rfl (dev_tg c _ rfl _) rfl rfl) $$ [HS3 HD3 HO]
  · isplitr; · iexact HR
    isplitl [HS3]; · iexact HS3
    isplitl [HD3] <;> iassumption
  iintro ⟨HS3, HO⟩
  iapply (step_ret c); iapply Hk
  isplitl [HO]; · iexact HO
  isplitl [HS2]; · iexact HS2
  isplitl [HA3] <;> iassumption

/-- Chunk 4 is quantised and sent. -/
theorem part8 :
    iprop((records m K ∗ levAts L lv) ∗ OW c (owR c 4) ∗ A1 m c 4 ∗ B0 c 4 ∗ D (F := F) (tg c) 4)
      ⊢ iprop(((OW c (owR c 3) ∗ A2 m c 4 ∗ B2 c 4) -∗ Q ⟨⟩) -∗ WP c Q (k0_part8 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c))) := by
  rw [k0_part8_eq_skeleton]; unfold k0_part8_skel
  simp only [Prog.lift, Prog.bind_op, Prog.bind_ret, Prog.pure_eq_ret]
  iintro ⟨⟨#HR, #Hl⟩, HO, HA4, HS4, HD4⟩ Hk
  iapply (step_inwait m c 4 1024 rfl 4) $$ [HA4 HO]
  · isplitr; · iexact Hl
    isplitl [HA4] <;> iassumption
  iintro ⟨HA4, HO⟩
  iapply (step_loadv m c 4 1024 rfl) $$ HA4; iintro HA4
  iapply (step_deadc c 4 1024 rfl) $$ HS4; iintro HS4
  iapply (step_storec m c 4 1024 rfl rfl) $$ HS4; iintro HS4
  iapply (step_send m K c 4 1024 rfl 3 rfl (dev_tg c _ rfl _) rfl rfl) $$ [HS4 HD4 HO]
  · isplitr; · iexact HR
    isplitl [HS4]; · iexact HS4
    isplitl [HD4] <;> iassumption
  iintro ⟨HS4, HO⟩
  iapply (step_ret c); iapply Hk
  isplitl [HO]; · iexact HO
  isplitl [HA4] <;> iassumption

/-- Chunk 5 is quantised and sent, chunk 6 waited for. -/
theorem part9 :
    iprop((records m K ∗ levAts L lv) ∗ OW c (owR c 3) ∗ A1 m c 5 ∗ B0 c 5 ∗ D (F := F) (tg c) 5 ∗ A1 m c 6)
      ⊢ iprop(((OW c (owR c 2) ∗ A2 m c 5 ∗ B2 c 5 ∗ A2 m c 6) -∗ Q ⟨⟩) -∗ WP c Q (k0_part9 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c))) := by
  rw [k0_part9_eq_skeleton]; unfold k0_part9_skel
  simp only [Prog.lift, Prog.bind_op, Prog.bind_ret, Prog.pure_eq_ret]
  iintro ⟨⟨#HR, #Hl⟩, HO, HA5, HS5, HD5, HA6⟩ Hk
  iapply (step_inwait m c 5 1280 rfl 3) $$ [HA5 HO]
  · isplitr; · iexact Hl
    isplitl [HA5] <;> iassumption
  iintro ⟨HA5, HO⟩
  iapply (step_loadv m c 5 1280 rfl) $$ HA5; iintro HA5
  iapply (step_deadc c 5 1280 rfl) $$ HS5; iintro HS5
  iapply (step_storec m c 5 1280 rfl rfl) $$ HS5; iintro HS5
  iapply (step_send m K c 5 1280 rfl 2 rfl (dev_tg c _ rfl _) rfl rfl) $$ [HS5 HD5 HO]
  · isplitr; · iexact HR
    isplitl [HS5]; · iexact HS5
    isplitl [HD5] <;> iassumption
  iintro ⟨HS5, HO⟩
  iapply (step_inwait m c 6 1536 rfl 2) $$ [HA6 HO]
  · isplitr; · iexact Hl
    isplitl [HA6] <;> iassumption
  iintro ⟨HA6, HO⟩
  iapply (step_ret c); iapply Hk
  isplitl [HO]; · iexact HO
  isplitl [HA5]; · iexact HA5
  isplitl [HS5] <;> iassumption

/-- Chunk 6 is quantised and sent, chunk 7 read. -/
theorem part10 {Q : FVec F S256x1024 .f32 → sProp (MT nD τ sig Unit (Elt F) ℕ UU ℕ)} :
    iprop((records m K ∗ levAts L lv) ∗ OW c (owR c 2) ∗ A2 m c 6 ∗ B0 c 6 ∗ D (F := F) (tg c) 6 ∗ A1 m c 7)
      ⊢ iprop(((OW c (owR c 1) ∗ A2 m c 6 ∗ B2 c 6 ∗ A2 m c 7) -∗ Q (k0_pay8 (X m c 7))) -∗ WP c Q (k0_part10 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c))) := by
  rw [k0_part10_eq_skeleton]; unfold k0_part10_skel
  simp only [Prog.lift, Prog.bind_op, Prog.bind_ret, Prog.pure_eq_ret]
  iintro ⟨⟨#HR, #Hl⟩, HO, HA6, HS6, HD6, HA7⟩ Hk
  iapply (step_loadv m c 6 1536 rfl) $$ HA6; iintro HA6
  iapply (step_deadc c 6 1536 rfl) $$ HS6; iintro HS6
  iapply (step_storec m c 6 1536 rfl rfl) $$ HS6; iintro HS6
  iapply (step_send m K c 6 1536 rfl 1 rfl (dev_tg c _ rfl _) rfl rfl) $$ [HS6 HD6 HO]
  · isplitr; · iexact HR
    isplitl [HS6]; · iexact HS6
    isplitl [HD6] <;> iassumption
  iintro ⟨HS6, HO⟩
  iapply (step_inwait m c 7 1792 rfl 1) $$ [HA7 HO]
  · isplitr; · iexact Hl
    isplitl [HA7] <;> iassumption
  iintro ⟨HA7, HO⟩
  iapply (step_loadv m c 7 1792 rfl) $$ HA7; iintro HA7
  iapply (step_ret c); iapply Hk
  isplitl [HO]; · iexact HO
  isplitl [HA6]; · iexact HA6
  isplitl [HS6] <;> iassumption

end Parts

end Cert.KernelIdeal.Perm

end
-- ==== Proof.PartsC.lean ====
/-
# The parts of the body: the arrivals and the copies out
-/
module

public import proofs.«01_k».proof.Proof.Table

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × J → ℕ) (c : Dev nD)

section Parts

variable {Q : PUnit → sProp (MT nD τ sig Unit (Elt F) ℕ UU ℕ)}

/-- Chunk 7 is quantised and sent, and chunk 0 of the source read. -/
theorem part11 {Q : FVec F S256x1024 .f32 → sProp (MT nD τ sig Unit (Elt F) ℕ UU ℕ)} :
    iprop((records m K ∗ levAts L lv) ∗ OW c (owR c 1) ∗ B0 c 7 ∗ D (F := F) (tg c) 7 ∗ R0 c 0)
      ⊢ iprop(((OW c (owR c 0) ∗ B2 c 7 ∗ R1 m c 0) -∗ Q (k0_pay10 (Y m (fr c) 0))) -∗ WP c Q (k0_part11 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (chk1 c) (k0_pay8 (X m c 7)))) := by
  rw [k0_part11_eq_skeleton]; unfold k0_part11_skel
  simp only [Prog.lift, Prog.bind_op, Prog.bind_ret, Prog.pure_eq_ret]
  iintro ⟨⟨#HR, #Hl⟩, HO, HS7, HD7, HT0⟩ Hk
  iapply (step_deadc c 7 1792 rfl) $$ HS7; iintro HS7
  iapply (step_storec m c 7 1792 rfl rfl) $$ HS7; iintro HS7
  iapply (step_send m K c 7 1792 rfl 0 rfl (dev_tg c _ rfl _) rfl rfl) $$ [HS7 HD7 HO]
  · isplitr; · iexact HR
    isplitl [HS7]; · iexact HS7
    isplitl [HD7] <;> iassumption
  iintro ⟨HS7, HO⟩
  iapply (step_recvwait m K c 0 0 rfl) $$ [HT0 HO]
  · isplitr; · iexact HR
    isplitl [HT0]; · iexact HT0
    iexact HO
  iintro ⟨HT0, HO⟩
  iapply (step_loadc m c 0 0 rfl) $$ HT0; iintro HT0
  iapply (step_ret c); iapply Hk
  isplitl [HO]; · iexact HO
  isplitl [HS7] <;> iassumption

/-- Chunk 0 is dequantised and copied out, chunk 1 dequantised. -/
theorem part12 :
    iprop(records m K ∗ OW c 0 ∗ S0 c 0 ∗ R0 c 1 ∗ S0 c 1)
      ⊢ iprop(((OW c 0 ∗ S2' m c 0 ∗ R1 m c 1 ∗ S1' m c 1) -∗ Q ⟨⟩) -∗ WP c Q (k0_part12 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (k0_pay10 (Y m (fr c) 0)))) := by
  rw [k0_part12_eq_skeleton]; unfold k0_part12_skel
  simp only [Prog.lift, Prog.bind_op, Prog.bind_ret, Prog.pure_eq_ret]
  iintro ⟨#HR, HO, HW0, HT1, HW1⟩ Hk
  iapply (step_deadw c 0 0 rfl) $$ HW0; iintro HW0
  iapply (step_storew m c 0 0 rfl rfl) $$ HW0; iintro HW0
  iapply (step_out m c 0 0 rfl rfl) $$ HW0; iintro HW0
  iapply (step_recvwait m K c 1 256 rfl) $$ [HT1 HO]
  · isplitr; · iexact HR
    isplitl [HT1] <;> iassumption
  iintro ⟨HT1, HO⟩
  iapply (step_loadc m c 1 256 rfl) $$ HT1; iintro HT1
  iapply (step_deadw c 1 256 rfl) $$ HW1; iintro HW1
  iapply (step_storew m c 1 256 rfl rfl) $$ HW1; iintro HW1
  iapply (step_ret c); iapply Hk
  isplitl [HO]; · iexact HO
  isplitl [HW0]; · iexact HW0
  isplitl [HT1] <;> iassumption

/-- Chunk 1 is copied out, chunk 2 dequantised and copied out. -/
theorem part13 :
    iprop(records m K ∗ OW c 0 ∗ S1' m c 1 ∗ R0 c 2 ∗ S0 c 2)
      ⊢ iprop(((OW c 0 ∗ S2' m c 1 ∗ R1 m c 2 ∗ S2' m c 2) -∗ Q ⟨⟩) -∗ WP c Q (k0_part13 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val))) := by
  rw [k0_part13_eq_skeleton]; unfold k0_part13_skel
  simp only [Prog.lift, Prog.bind_op, Prog.bind_ret, Prog.pure_eq_ret]
  iintro ⟨#HR, HO, HW1, HT2, HW2⟩ Hk
  iapply (step_out m c 1 256 rfl rfl) $$ HW1; iintro HW1
  iapply (step_recvwait m K c 2 512 rfl) $$ [HT2 HO]
  · isplitr; · iexact HR
    isplitl [HT2] <;> iassumption
  iintro ⟨HT2, HO⟩
  iapply (step_loadc m c 2 512 rfl) $$ HT2; iintro HT2
  iapply (step_deadw c 2 512 rfl) $$ HW2; iintro HW2
  iapply (step_storew m c 2 512 rfl rfl) $$ HW2; iintro HW2
  iapply (step_out m c 2 512 rfl rfl) $$ HW2; iintro HW2
  iapply (step_ret c); iapply Hk
  isplitl [HO]; · iexact HO
  isplitl [HW1]; · iexact HW1
  isplitl [HT2] <;> iassumption

/-- Chunk 3 is dequantised and copied out. -/
theorem part14 :
    iprop(records m K ∗ OW c 0 ∗ R0 c 3 ∗ S0 c 3)
      ⊢ iprop(((OW c 0 ∗ R1 m c 3 ∗ S2' m c 3) -∗ Q ⟨⟩) -∗ WP c Q (k0_part14 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val))) := by
  rw [k0_part14_eq_skeleton]; unfold k0_part14_skel
  simp only [Prog.lift, Prog.bind_op, Prog.bind_ret, Prog.pure_eq_ret]
  iintro ⟨#HR, HO, HT3, HW3⟩ Hk
  iapply (step_recvwait m K c 3 768 rfl) $$ [HT3 HO]
  · isplitr; · iexact HR
    isplitl [HT3] <;> iassumption
  iintro ⟨HT3, HO⟩
  iapply (step_loadc m c 3 768 rfl) $$ HT3; iintro HT3
  iapply (step_deadw c 3 768 rfl) $$ HW3; iintro HW3
  iapply (step_storew m c 3 768 rfl rfl) $$ HW3; iintro HW3
  iapply (step_out m c 3 768 rfl rfl) $$ HW3; iintro HW3
  iapply (step_ret c); iapply Hk
  isplitl [HO]; · iexact HO
  isplitl [HT3] <;> iassumption

/-- Chunk 4 is dequantised and copied out, chunk 5 read. -/
theorem part15 {Q : FVec F S256x1024 .bf16 → sProp (MT nD τ sig Unit (Elt F) ℕ UU ℕ)} :
    iprop(records m K ∗ OW c 0 ∗ R0 c 4 ∗ S0 c 4 ∗ R0 c 5)
      ⊢ iprop(((OW c 0 ∗ R1 m c 4 ∗ S2' m c 4 ∗ R1 m c 5) -∗ Q (k0_pay16 (Y m (fr c) 5))) -∗ WP c Q (k0_part15 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val))) := by
  rw [k0_part15_eq_skeleton]; unfold k0_part15_skel
  simp only [Prog.lift, Prog.bind_op, Prog.bind_ret, Prog.pure_eq_ret]
  iintro ⟨#HR, HO, HT4, HW4, HT5⟩ Hk
  iapply (step_recvwait m K c 4 1024 rfl) $$ [HT4 HO]
  · isplitr; · iexact HR
    isplitl [HT4] <;> iassumption
  iintro ⟨HT4, HO⟩
  iapply (step_loadc m c 4 1024 rfl) $$ HT4; iintro HT4
  iapply (step_deadw c 4 1024 rfl) $$ HW4; iintro HW4
  iapply (step_storew m c 4 1024 rfl rfl) $$ HW4; iintro HW4
  iapply (step_out m c 4 1024 rfl rfl) $$ HW4; iintro HW4
  iapply (step_recvwait m K c 5 1280 rfl) $$ [HT5 HO]
  · isplitr; · iexact HR
    isplitl [HT5] <;> iassumption
  iintro ⟨HT5, HO⟩
  iapply (step_loadc m c 5 1280 rfl) $$ HT5; iintro HT5
  iapply (step_ret c); iapply Hk
  isplitl [HO]; · iexact HO
  isplitl [HT4]; · iexact HT4
  isplitl [HW4] <;> iassumption

/-- Chunk 5 is dequantised and copied out, chunk 6 dequantised. -/
theorem part16 :
    iprop(records m K ∗ OW c 0 ∗ S0 c 5 ∗ R0 c 6 ∗ S0 c 6)
      ⊢ iprop(((OW c 0 ∗ S2' m c 5 ∗ R1 m c 6 ∗ S1' m c 6) -∗ Q ⟨⟩) -∗ WP c Q (k0_part16 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val) (k0_pay16 (Y m (fr c) 5)))) := by
  rw [k0_part16_eq_skeleton]; unfold k0_part16_skel
  simp only [Prog.lift, Prog.bind_op, Prog.bind_ret, Prog.pure_eq_ret]
  iintro ⟨#HR, HO, HW5, HT6, HW6⟩ Hk
  iapply (step_deadw c 5 1280 rfl) $$ HW5; iintro HW5
  iapply (step_storew m c 5 1280 rfl rfl) $$ HW5; iintro HW5
  iapply (step_out m c 5 1280 rfl rfl) $$ HW5; iintro HW5
  iapply (step_recvwait m K c 6 1536 rfl) $$ [HT6 HO]
  · isplitr; · iexact HR
    isplitl [HT6] <;> iassumption
  iintro ⟨HT6, HO⟩
  iapply (step_loadc m c 6 1536 rfl) $$ HT6; iintro HT6
  iapply (step_deadw c 6 1536 rfl) $$ HW6; iintro HW6
  iapply (step_storew m c 6 1536 rfl rfl) $$ HW6; iintro HW6
  iapply (step_ret c); iapply Hk
  isplitl [HO]; · iexact HO
  isplitl [HW5]; · iexact HW5
  isplitl [HT6] <;> iassumption

/-- Chunk 6 is copied out, chunk 7 dequantised and copied out. -/
theorem part17 :
    iprop(records m K ∗ OW c 0 ∗ S1' m c 6 ∗ R0 c 7 ∗ S0 c 7)
      ⊢ iprop(((OW c 0 ∗ S2' m c 6 ∗ R1 m c 7 ∗ S2' m c 7) -∗ Q ⟨⟩) -∗ WP c Q (k0_part17 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6 (wd c.val))) := by
  rw [k0_part17_eq_skeleton]; unfold k0_part17_skel
  simp only [Prog.lift, Prog.bind_op, Prog.bind_ret, Prog.pure_eq_ret]
  iintro ⟨#HR, HO, HW6, HT7, HW7⟩ Hk
  iapply (step_out m c 6 1536 rfl rfl) $$ HW6; iintro HW6
  iapply (step_recvwait m K c 7 1792 rfl) $$ [HT7 HO]
  · isplitr; · iexact HR
    isplitl [HT7] <;> iassumption
  iintro ⟨HT7, HO⟩
  iapply (step_loadc m c 7 1792 rfl) $$ HT7; iintro HT7
  iapply (step_deadw c 7 1792 rfl) $$ HW7; iintro HW7
  iapply (step_storew m c 7 1792 rfl rfl) $$ HW7; iintro HW7
  iapply (step_out m c 7 1792 rfl rfl) $$ HW7; iintro HW7
  iapply (step_ret c); iapply Hk
  isplitl [HO]; · iexact HO
  isplitl [HW6]; · iexact HW6
  isplitl [HT7] <;> iassumption

/-- The first two chunks are done with. -/
theorem part18 :
    iprop(records m K ∗ OW c 0 ∗ S2' m c 0 ∗ B2 c 0 ∗ S2' m c 1 ∗ B2 c 1 ∗ S2' m c 2)
      ⊢ iprop(((OW c 0 ∗ S3' m c 0 ∗ B3 c 0 ∗ S3' m c 1 ∗ B3 c 1 ∗ S3' m c 2) -∗ Q ⟨⟩) -∗ WP c Q (k0_part18 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6)) := by
  rw [k0_part18_eq_skeleton]; unfold k0_part18_skel
  simp only [Prog.lift, Prog.bind_op, Prog.bind_ret, Prog.pure_eq_ret]
  iintro ⟨#HR, HO, HW0, HS0, HW1, HS1, HW2⟩ Hk
  iapply (step_outwait m c 0 0 rfl) $$ [HW0 HO]
  · isplitl [HW0] <;> iassumption
  iintro ⟨HW0, HO⟩
  iapply (step_sendwait m K c 0 0 rfl) $$ [HS0 HO]
  · isplitr; · iexact HR
    isplitl [HS0] <;> iassumption
  iintro ⟨HS0, HO⟩
  iapply (step_outwait m c 1 256 rfl) $$ [HW1 HO]
  · isplitl [HW1] <;> iassumption
  iintro ⟨HW1, HO⟩
  iapply (step_sendwait m K c 1 256 rfl) $$ [HS1 HO]
  · isplitr; · iexact HR
    isplitl [HS1] <;> iassumption
  iintro ⟨HS1, HO⟩
  iapply (step_outwait m c 2 512 rfl) $$ [HW2 HO]
  · isplitl [HW2] <;> iassumption
  iintro ⟨HW2, HO⟩
  iapply (step_ret c); iapply Hk
  isplitl [HO]; · iexact HO
  isplitl [HW0]; · iexact HW0
  isplitl [HS0]; · iexact HS0
  isplitl [HW1]; · iexact HW1
  isplitl [HS1] <;> iassumption

/-- Chunks 2 and 3 are done with. -/
theorem part19 :
    iprop(records m K ∗ OW c 0 ∗ B2 c 2 ∗ S2' m c 3 ∗ B2 c 3 ∗ S2' m c 4)
      ⊢ iprop(((OW c 0 ∗ B3 c 2 ∗ S3' m c 3 ∗ B3 c 3 ∗ S3' m c 4) -∗ Q ⟨⟩) -∗ WP c Q (k0_part19 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6)) := by
  rw [k0_part19_eq_skeleton]; unfold k0_part19_skel
  simp only [Prog.lift, Prog.bind_op, Prog.bind_ret, Prog.pure_eq_ret]
  iintro ⟨#HR, HO, HS2, HW3, HS3, HW4⟩ Hk
  iapply (step_sendwait m K c 2 512 rfl) $$ [HS2 HO]
  · isplitr; · iexact HR
    isplitl [HS2] <;> iassumption
  iintro ⟨HS2, HO⟩
  iapply (step_outwait m c 3 768 rfl) $$ [HW3 HO]
  · isplitl [HW3] <;> iassumption
  iintro ⟨HW3, HO⟩
  iapply (step_sendwait m K c 3 768 rfl) $$ [HS3 HO]
  · isplitr; · iexact HR
    isplitl [HS3] <;> iassumption
  iintro ⟨HS3, HO⟩
  iapply (step_outwait m c 4 1024 rfl) $$ [HW4 HO]
  · isplitl [HW4] <;> iassumption
  iintro ⟨HW4, HO⟩
  iapply (step_ret c); iapply Hk
  isplitl [HO]; · iexact HO
  isplitl [HS2]; · iexact HS2
  isplitl [HW3]; · iexact HW3
  isplitl [HS3] <;> iassumption

/-- Chunks 4 and 5 are done with. -/
theorem part20 :
    iprop(records m K ∗ OW c 0 ∗ B2 c 4 ∗ S2' m c 5 ∗ B2 c 5 ∗ S2' m c 6)
      ⊢ iprop(((OW c 0 ∗ B3 c 4 ∗ S3' m c 5 ∗ B3 c 5 ∗ S3' m c 6) -∗ Q ⟨⟩) -∗ WP c Q (k0_part20 tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6)) := by
  rw [k0_part20_eq_skeleton]; unfold k0_part20_skel
  simp only [Prog.lift, Prog.bind_op, Prog.bind_ret, Prog.pure_eq_ret]
  iintro ⟨#HR, HO, HS4, HW5, HS5, HW6⟩ Hk
  iapply (step_sendwait m K c 4 1024 rfl) $$ [HS4 HO]
  · isplitr; · iexact HR
    isplitl [HS4] <;> iassumption
  iintro ⟨HS4, HO⟩
  iapply (step_outwait m c 5 1280 rfl) $$ [HW5 HO]
  · isplitl [HW5] <;> iassumption
  iintro ⟨HW5, HO⟩
  iapply (step_sendwait m K c 5 1280 rfl) $$ [HS5 HO]
  · isplitr; · iexact HR
    isplitl [HS5] <;> iassumption
  iintro ⟨HS5, HO⟩
  iapply (step_outwait m c 6 1536 rfl) $$ [HW6 HO]
  · isplitl [HW6] <;> iassumption
  iintro ⟨HW6, HO⟩
  iapply (step_ret c); iapply Hk
  isplitl [HO]; · iexact HO
  isplitl [HS4]; · iexact HS4
  isplitl [HW5]; · iexact HW5
  isplitl [HS5] <;> iassumption

end Parts

end Cert.KernelIdeal.Perm

end
-- ==== Proof.Body.lean ====
/-
# The body

The parts put together: what the body starts from and ends with, and that it takes the one to the other.
-/
module

public import proofs.«01_k».proof.Proof.PartsA
public import proofs.«01_k».proof.Proof.PartsB
public import proofs.«01_k».proof.Proof.PartsC
public import Idealize.ShloMosaic.Lib.Pipeline.Launch
public import Idealize.ShloMosaic.Lib.Pipeline.Kit

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

variable (m : (ℓ : Loc nD τ sig) → Buf (Elt F) ℓ) (ρ : Dev nD → PrngReg) (K : Dev nD × J → ℕ) (c : Dev nD)

/-! ## What the body starts from and ends with -/

/-- Eight conjoined, one by one. -/
theorem bigSep_fin8 (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What the body starts from. -/
def Φ₀ : sProp (MT nD τ sig Unit (Elt F) ℕ UU ℕ) :=
  iprop((∃ K, records m K) ∗ levAts L lv ∗ dutyTok ER (bar (tg c)) 0 false ∗ dutyTok ER (bar (fr c)) 0 true
    ∗ cred (tallyAt (bar c) () 2) ∗ atPos ER (bar c) 0 ∅ 0
    ∗ (bigSep Finset.univ fun k : Fin 8 => D (F := F) c k) ∗ (bigSep Finset.univ fun k : Fin 8 => A0 m c k)
    ∗ (bigSep Finset.univ fun k : Fin 8 => B0 (F := F) c k) ∗ (bigSep Finset.univ fun k : Fin 8 => R0 (F := F) c k)
    ∗ (bigSep Finset.univ fun k : Fin 8 => S0 (F := F) c k))

/-- What it ends with: every chunk in place and every semaphore of the device at zero. -/
def Φ₁ : sProp (MT nD τ sig Unit (Elt F) ℕ UU ℕ) :=
  iprop(semVal (bar c) 0 ∗ (bigSep Finset.univ fun k : Fin 8 => A2 m c k) ∗ (bigSep Finset.univ fun k : Fin 8 => B3 (F := F) c k)
    ∗ (bigSep Finset.univ fun k : Fin 8 => R1 m c k) ∗ (bigSep Finset.univ fun k : Fin 8 => S3' m c k))

/-- The launch's data: the one window is the table. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer is owning its points at its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- One program then another. -/
theorem seq_bind {α β : Type} (p : Prog (TpuEff nD τ sig (Elt F) Λ₀ .tc) α) (q : α → Prog (TpuEff nD τ sig (Elt F) Λ₀ .tc) β) (Q : β → sProp (MT nD τ sig Unit (Elt F) ℕ UU ℕ)) :
    WP c Q (p >>= q) = WP c (fun a => WP c Q (q a)) p := wp_bind ..

set_option maxHeartbeats 1000000 in
/-- The body's parts in order, from what it starts from to what it ends with. -/
theorem sound_body (hpre : PreOK m) (Kt : PUnit → sProp (MT nD τ sig Unit (Elt F) ℕ UU ℕ)) :
    iprop((Φ₀ m c ∗ OW c (O₀ c) ∗ TB m c) ∗ ((Φ₁ m c ∗ OW c 0 ∗ TB m c) -∗ Kt ⟨⟩))
      ⊢ WP c Kt (cc0_body tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6) := by
  simp only [cc0_body_eq_skeleton]; unfold cc0_body_skel
  unfold Φ₀ Φ₁
  rw [bigSep_fin8 (fun k => A0 m c k), bigSep_fin8 (fun k => B0 c k), bigSep_fin8 (fun k => R0 c k), bigSep_fin8 (fun k => S0 c k),
    bigSep_fin8 (fun k => A2 m c k), bigSep_fin8 (fun k => B3 c k), bigSep_fin8 (fun k => R1 m c k), bigSep_fin8 (fun k => S3' m c k)]
  iintro ⟨⟨⟨⟨%K, #HR⟩, #Hl, Ht1, Ht2, Hc, Hat, HD, ⟨HA0, HA1, HA2, HA3, HA4, HA5, HA6, HA7⟩, ⟨HS0, HS1, HS2, HS3, HS4, HS5, HS6, HS7⟩,
    ⟨HT0, HT1, HT2, HT3, HT4, HT5, HT6, HT7⟩, ⟨HW0, HW1, HW2, HW3, HW4, HW5, HW6, HW7⟩⟩, HO, HTB⟩, Hk⟩
  ihave #HRl : iprop(records m K ∗ levAts L lv) $$ []
  · isplitr <;> iassumption
  rw [seq_bind]
  iapply (part1 m c hpre) $$ [HTB]
  · iexact HTB
  iintro %v2 %v34 HTB
  dsimp only
  rw [seq_bind]
  iapply (part2 m c hpre v2 v34) $$ [HTB HA0 HA1]
  · isplitl [HTB]; · iexact HTB
    isplitl [HA0]; · iexact HA0
    iexact HA1
  iintro %v52 ⟨HTB, HA0, HA1⟩
  dsimp only
  rw [seq_bind]
  iapply (part3 m c) $$ [HA2 HA3 HA4 HA5 HA6]
  · isplitl [HA2]; · iexact HA2
    isplitl [HA3]; · iexact HA3
    isplitl [HA4]; · iexact HA4
    isplitl [HA5]; · iexact HA5
    iexact HA6
  iintro ⟨HA2, HA3, HA4, HA5, HA6⟩
  rw [seq_bind]
  iapply (part4 m K c v52) $$ [HA7 HO Ht1 Ht2 HD Hc Hat HA0 HS0]
  · isplitr; · iexact HRl
    isplitl [HA7]; · iexact HA7
    isplitl [HO]; · iexact HO
    isplitl [Ht1]; · iexact Ht1
    isplitl [Ht2]; · iexact Ht2
    isplitl [HD]; · iexact HD
    isplitl [Hc]; · iexact Hc
    isplitl [Hat]; · iexact Hat
    isplitl [HA0]; · iexact HA0
    iexact HS0
  iintro ⟨HA7, HO, HD, Hz, HA0, HS0⟩
  ihave HD := (Entails.of_eq (bigSep_fin8 fun k => D (F := F) (tg c) k)) $$ HD
  icases HD with ⟨HD0, HD1, HD2, HD3, HD4, HD5, HD6, HD7⟩
  rw [seq_bind]
  iapply (part5 m K c) $$ [HO HS0 HD0 HA1 HS1]
  · isplitr; · iexact HRl
    isplitl [HO]; · iexact HO
    isplitl [HS0]; · iexact HS0
    isplitl [HD0]; · iexact HD0
    isplitl [HA1]; · iexact HA1
    iexact HS1
  iintro ⟨HO, HS0, HA1, HS1⟩
  rw [seq_bind]
  iapply (part6 m K c) $$ [HO HS1 HD1 HA2 HS2]
  · isplitr; · iexact HRl
    isplitl [HO]; · iexact HO
    isplitl [HS1]; · iexact HS1
    isplitl [HD1]; · iexact HD1
    isplitl [HA2]; · iexact HA2
    iexact HS2
  iintro ⟨HO, HS1, HA2, HS2⟩
  rw [seq_bind]
  iapply (part7 m K c) $$ [HO HS2 HD2 HA3 HS3 HD3]
  · isplitr; · iexact HRl
    isplitl [HO]; · iexact HO
    isplitl [HS2]; · iexact HS2
    isplitl [HD2]; · iexact HD2
    isplitl [HA3]; · iexact HA3
    isplitl [HS3]; · iexact HS3
    iexact HD3
  iintro ⟨HO, HS2, HA3, HS3⟩
  rw [seq_bind]
  iapply (part8 m K c) $$ [HO HA4 HS4 HD4]
  · isplitr; · iexact HRl
    isplitl [HO]; · iexact HO
    isplitl [HA4]; · iexact HA4
    isplitl [HS4]; · iexact HS4
    iexact HD4
  iintro ⟨HO, HA4, HS4⟩
  rw [seq_bind]
  iapply (part9 m K c) $$ [HO HA5 HS5 HD5 HA6]
  · isplitr; · iexact HRl
    isplitl [HO]; · iexact HO
    isplitl [HA5]; · iexact HA5
    isplitl [HS5]; · iexact HS5
    isplitl [HD5]; · iexact HD5
    iexact HA6
  iintro ⟨HO, HA5, HS5, HA6⟩
  rw [seq_bind]
  iapply (part10 m K c) $$ [HO HA6 HS6 HD6 HA7]
  · isplitr; · iexact HRl
    isplitl [HO]; · iexact HO
    isplitl [HA6]; · iexact HA6
    isplitl [HS6]; · iexact HS6
    isplitl [HD6]; · iexact HD6
    iexact HA7
  iintro ⟨HO, HA6, HS6, HA7⟩
  rw [seq_bind]
  iapply (part11 m K c) $$ [HO HS7 HD7 HT0]
  · isplitr; · iexact HRl
    isplitl [HO]; · iexact HO
    isplitl [HS7]; · iexact HS7
    isplitl [HD7]; · iexact HD7
    iexact HT0
  iintro ⟨HO, HS7, HT0⟩
  rw [seq_bind]
  iapply (part12 m K c) $$ [HO HW0 HT1 HW1]
  · isplitr; · iexact HR
    isplitl [HO]; · iexact HO
    isplitl [HW0]; · iexact HW0
    isplitl [HT1]; · iexact HT1
    iexact HW1
  iintro ⟨HO, HW0, HT1, HW1⟩
  rw [seq_bind]
  iapply (part13 m K c) $$ [HO HW1 HT2 HW2]
  · isplitr; · iexact HR
    isplitl [HO]; · iexact HO
    isplitl [HW1]; · iexact HW1
    isplitl [HT2]; · iexact HT2
    iexact HW2
  iintro ⟨HO, HW1, HT2, HW2⟩
  rw [seq_bind]
  iapply (part14 m K c) $$ [HO HT3 HW3]
  · isplitr; · iexact HR
    isplitl [HO]; · iexact HO
    isplitl [HT3]; · iexact HT3
    iexact HW3
  iintro ⟨HO, HT3, HW3⟩
  rw [seq_bind]
  iapply (part15 m K c) $$ [HO HT4 HW4 HT5]
  · isplitr; · iexact HR
    isplitl [HO]; · iexact HO
    isplitl [HT4]; · iexact HT4
    isplitl [HW4]; · iexact HW4
    iexact HT5
  iintro ⟨HO, HT4, HW4, HT5⟩
  rw [seq_bind]
  iapply (part16 m K c) $$ [HO HW5 HT6 HW6]
  · isplitr; · iexact HR
    isplitl [HO]; · iexact HO
    isplitl [HW5]; · iexact HW5
    isplitl [HT6]; · iexact HT6
    iexact HW6
  iintro ⟨HO, HW5, HT6, HW6⟩
  rw [seq_bind]
  iapply (part17 m K c) $$ [HO HW6 HT7 HW7]
  · isplitr; · iexact HR
    isplitl [HO]; · iexact HO
    isplitl [HW6]; · iexact HW6
    isplitl [HT7]; · iexact HT7
    iexact HW7
  iintro ⟨HO, HW6, HT7, HW7⟩
  rw [seq_bind]
  iapply (part18 m K c) $$ [HO HW0 HS0 HW1 HS1 HW2]
  · isplitr; · iexact HR
    isplitl [HO]; · iexact HO
    isplitl [HW0]; · iexact HW0
    isplitl [HS0]; · iexact HS0
    isplitl [HW1]; · iexact HW1
    isplitl [HS1]; · iexact HS1
    iexact HW2
  iintro ⟨HO, HW0, HS0, HW1, HS1, HW2⟩
  rw [seq_bind]
  iapply (part19 m K c) $$ [HO HS2 HW3 HS3 HW4]
  · isplitr; · iexact HR
    isplitl [HO]; · iexact HO
    isplitl [HS2]; · iexact HS2
    isplitl [HW3]; · iexact HW3
    isplitl [HS3]; · iexact HS3
    iexact HW4
  iintro ⟨HO, HS2, HW3, HS3, HW4⟩
  rw [seq_bind]
  iapply (part20 m K c) $$ [HO HS4 HW5 HS5 HW6]
  · isplitr; · iexact HR
    isplitl [HO]; · iexact HO
    isplitl [HS4]; · iexact HS4
    isplitl [HW5]; · iexact HW5
    isplitl [HS5]; · iexact HS5
    iexact HW6
  iintro ⟨HO, HS4, HW5, HS5, HW6⟩
  simp only [Prog.lift, Prog.bind_op, Prog.bind_ret, Prog.pure_eq_ret]
  iapply (step_sendwait m K c 6 1536 rfl) $$ [HS6 HO]
  · isplitr; · iexact HR
    isplitl [HS6] <;> iassumption
  iintro ⟨HS6, HO⟩
  iapply (step_outwait m c 7 1792 rfl) $$ [HW7 HO]
  · isplitl [HW7] <;> iassumption
  iintro ⟨HW7, HO⟩
  iapply (step_sendwait m K c 7 1792 rfl) $$ [HS7 HO]
  · isplitr; · iexact HR
    isplitl [HS7] <;> iassumption
  iintro ⟨HS7, HO⟩
  iapply (step_ret c); iapply Hk
  isplitr [HO HTB]
  · isplitl [Hz]; · iexact Hz
    isplitl [HA0 HA1 HA2 HA3 HA4 HA5 HA6 HA7]; · iframe
    isplitl [HS0 HS1 HS2 HS3 HS4 HS5 HS6 HS7]; · iframe
    isplitl [HT0 HT1 HT2 HT3 HT4 HT5 HT6 HT7]; · iframe
    iframe
  isplitl [HO] <;> iassumption

/-- What the launch hands the body and takes back. -/
def bodyPre : sProp (MT nD τ sig Unit (Elt F) ℕ UU ℕ) :=
  iprop(Φ₀ m c ∗ (dats m ρ 0 c).owesAt () t0_0.castSucc
    ∗ (∃ d, ∃ f : Buf (Elt F) ((c : Thread nD τ).loc cc0_stg0_0), ⌜f = (dats m ρ 0 c).before (0 : Fin 1) t0_0 d⌝ ∗ ((c : Thread nD τ).loc cc0_stg0_0) ↦{fullShare} f))
/-- What the body leaves at its end. -/
def bodyPost : sProp (MT nD τ sig Unit (Elt F) ℕ UU ℕ) :=
  iprop(Φ₁ m c ∗ (dats m ρ 0 c).owesAt () t0_0.succ
    ∗ (∃ f : Buf (Elt F) ((c : Thread nD τ).loc cc0_stg0_0), ⌜f = tstg m c⌝ ∗ ((c : Thread nD τ).loc cc0_stg0_0) ↦{fullShare} f))

/-- The table is fetched at the one grid point. -/
theorem fetch_0 (t : Fin cfg0.N) : (cfg0.win (0 : Fin 1)).fetch t = true := by rw [fin_N0 t]; rfl

set_option maxRecDepth 100000 in
/-- The body's obligation as the launch states it. -/
theorem body_obligation (hpre : PreOK m) (c : Dev nD) : BodyObligation (dats m ρ 0 c) (defs₀ (F := F)) 𝒱₀ () Set.univ := fun t => by
  rw [fin_N0 t]
  rw [bigSep_W0, bigSep_W0]
  simp only [owns_whole_eq]
  show bodyPre m ρ c ⊢ WP c (fun _ => bodyPost m ρ c) (cc0_body tM (Memref.isWhole_whole _) xM (Memref.isWhole_whole _) oM (Memref.isWhole_whole _) vM (Memref.isWhole_whole _) cM (Memref.isWhole_whole _) wM (Memref.isWhole_whole _) cc0_scratch3 cc0_scratch4 cc0_scratch5 cc0_scratch6)
  unfold bodyPre
  iintro ⟨HΦ, Ho, ⟨%d, %g, %hg, Hx⟩⟩
  have hx : g = tstg m c := by rw [hg]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  iapply (sound_body m c hpre fun _ => bodyPost m ρ c)
  isplitl
  · isplitl [HΦ]; · iexact HΦ
    isplitl [HO]
    · unfold OW; iexists W; iexact HO
    unfold TB; iexact Hx
  unfold OW TB
  iintro ⟨HΦ, ⟨%W', HO⟩, Hx⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  iexists _; isplitr; · (ipureintro; rfl)
  iexact Hx

end Cert.KernelIdeal.Perm

end
-- ==== Proof.Chunks.lean ====
/-
# The chunks of a buffer

Each buffer held whole is held chunk by chunk, and back.
-/
module

public import proofs.«01_k».proof.Proof.Body
public import Idealize.ShloMosaic.Lib.Ring

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (K : Dev nD × J → ℕ) (c : Dev nD)

/-! ## The chunks of each buffer are disjoint and cover it -/

/-- Two chunks of the input, and of the result, share no element, -/
theorem disjX (k k' : Fin 8) (h : k ≠ k') : Disjoint (rX k).set (rX k').set :=
  Ring.lead_disjoint (s := S1x2048x1024) 1 256 (fun k : Fin 8 => ![0, 256 * k.val, 0]) S1x256x1024.size inbX (fun _ => rfl) rfl k k' h
/-- and the chunks are the whole array. -/
theorem coverX : Finset.univ.biUnion (fun k => (rX k).set) = Finset.univ :=
  Ring.lead_cover (s := S1x2048x1024) 1 256 (fun k : Fin 8 => ![0, 256 * k.val, 0]) S1x256x1024.size inbX (fun _ => rfl)
    (fun k a ha => by fin_cases a <;> first | rfl | exact absurd rfl ha) rfl (fun a ha => by fin_cases a <;> first | rfl | exact absurd rfl ha) rfl
/-- So of the staging buffers: no element is shared, -/
theorem disjV (k k' : Fin 8) (h : k ≠ k') : Disjoint (rV k).set (rV k').set :=
  Ring.lead_disjoint (s := S2048x1024) 0 256 (fun k : Fin 8 => ![256 * k.val, 0]) S256x1024.size inbV (fun _ => rfl) rfl k k' h
/-- and none is left out. -/
theorem coverV : Finset.univ.biUnion (fun k => (rV k).set) = Finset.univ :=
  Ring.lead_cover (s := S2048x1024) 0 256 (fun k : Fin 8 => ![256 * k.val, 0]) S256x1024.size inbV (fun _ => rfl)
    (fun k a ha => by fin_cases a <;> first | rfl | exact absurd rfl ha) rfl (fun a ha => by fin_cases a <;> first | rfl | exact absurd rfl ha) rfl
/-- So of the communication buffer, in its two halves: no element is shared, -/
theorem disjC (x x' : Fin 2 × Fin 8) (h : x ≠ x') : Disjoint (rC x.1 x.2).set (rC x'.1 x'.2).set := by
  obtain ⟨b, k⟩ := x; obtain ⟨b', k'⟩ := x'
  rw [Finset.disjoint_left]
  intro i hi hi'
  have h0 := (Rect.mem_set_unit.mp hi) 0
  have h0' := (Rect.mem_set_unit.mp hi') 0
  have h1 := (Rect.mem_set_unit.mp hi) 1
  have h1' := (Rect.mem_set_unit.mp hi') 1
  change b.val ≤ (i 0).val ∧ (i 0).val < b.val + 1 at h0
  change b'.val ≤ (i 0).val ∧ (i 0).val < b'.val + 1 at h0'
  change 256 * k.val ≤ (i 1).val ∧ (i 1).val < 256 * k.val + 256 at h1
  change 256 * k'.val ≤ (i 1).val ∧ (i 1).val < 256 * k'.val + 256 at h1'
  exact h (Prod.ext (Fin.ext (by show b.val = b'.val; omega)) (Fin.ext (by show k.val = k'.val; omega)))
/-- and none is left out. -/
theorem coverC : Finset.univ.biUnion (fun x : Fin 2 × Fin 8 => (rC x.1 x.2).set) = Finset.univ := by
  ext i
  simp only [Finset.mem_biUnion, Finset.mem_univ, true_and, iff_true]
  have h0 : (i 0).val < 2 := (i 0).isLt
  have h1 : (i 1).val < 2048 := (i 1).isLt
  have h2 : (i 2).val < 1024 := (i 2).isLt
  refine ⟨(⟨(i 0).val, h0⟩, ⟨(i 1).val / 256, by omega⟩), Rect.mem_set_unit.mpr fun a => ?_⟩
  fin_cases a
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 1024; omega

/-! ## A buffer whole is its chunks -/

/-- The input array is its chunks, -/
theorem xSplit : (((c : Thread nD τ).loc main_arg0) ↦{fullShare} m ((c : Thread nD τ).loc main_arg0) : sProp (MT nD τ sig Unit (Elt F) ℕ UU ℕ)) = bigSep Finset.univ fun k : Fin 8 => xP m c k := by
  refine (Ring.pointsTo_blocks (ℓ := (c : Thread nD τ).loc main_arg0) (fun k : Fin 8 => (rX k).set) disjX coverX _).trans (bigSep_congr fun k _ => ?_)
  unfold xP; rw [View.set_slice_whole]
/-- the result array its own, -/
theorem oSplit (f : Buf (Elt F) ((c : Thread nD τ).loc main_v1)) : (((c : Thread nD τ).loc main_v1) ↦{fullShare} f : sProp (MT nD τ sig Unit (Elt F) ℕ UU ℕ)) = bigSep Finset.univ fun k : Fin 8 => oP c k f := by
  refine (Ring.pointsTo_blocks (ℓ := (c : Thread nD τ).loc main_v1) (fun k : Fin 8 => (rX k).set) disjX coverX _).trans (bigSep_congr fun k _ => ?_)
  unfold oP; rw [View.set_slice_whole]
/-- so the input staging buffer, -/
theorem vSplit (f : Buf (Elt F) ((c : Thread nD τ).loc cc0_scratch0)) : (((c : Thread nD τ).loc cc0_scratch0) ↦{fullShare} f : sProp (MT nD τ sig Unit (Elt F) ℕ UU ℕ)) = bigSep Finset.univ fun k : Fin 8 => vP c k f := by
  refine (Ring.pointsTo_blocks (ℓ := (c : Thread nD τ).loc cc0_scratch0) (fun k : Fin 8 => (rV k).set) disjV coverV _).trans (bigSep_congr fun k _ => ?_)
  unfold vP; rw [View.set_slice_whole]
/-- the result staging buffer, -/
theorem wSplit (f : Buf (Elt F) ((c : Thread nD τ).loc cc0_scratch2)) : (((c : Thread nD τ).loc cc0_scratch2) ↦{fullShare} f : sProp (MT nD τ sig Unit (Elt F) ℕ UU ℕ)) = bigSep Finset.univ fun k : Fin 8 => wP c k f := by
  refine (Ring.pointsTo_blocks (ℓ := (c : Thread nD τ).loc cc0_scratch2) (fun k : Fin 8 => (rV k).set) disjV coverV _).trans (bigSep_congr fun k _ => ?_)
  unfold wP; rw [View.set_slice_whole]
/-- and the communication buffer. -/
theorem cSplit (f : Buf (Elt F) ((c : Thread nD τ).loc cc0_scratch1)) : (((c : Thread nD τ).loc cc0_scratch1) ↦{fullShare} f : sProp (MT nD τ sig Unit (Elt F) ℕ UU ℕ))
    = bigSep Finset.univ fun x : Fin 2 × Fin 8 => cP c x.1 x.2 f := by
  refine (Ring.pointsTo_blocks (ℓ := (c : Thread nD τ).loc cc0_scratch1) (fun x : Fin 2 × Fin 8 => (rC x.1 x.2).set) disjC coverC _).trans (bigSep_congr fun x _ => ?_)
  unfold cP; rw [View.set_slice_whole]

include m in
/-- Back: the float staging buffer, -/
theorem vJoin : (bigSep Finset.univ fun k : Fin 8 => iprop(∃ f, vP (F := F) c k f)) ⊢ (iprop(∃ f, ((c : Thread nD τ).loc cc0_scratch0) ↦{fullShare} f) : sProp (MT nD τ sig Unit (Elt F) ℕ UU ℕ)) :=
  (Entails.of_eq (bigSep_congr fun k _ => by unfold vP; rw [View.set_slice_whole])).trans
    (Ring.pointsTo_blocks_join_exists (ℓ := (c : Thread nD τ).loc cc0_scratch0) (fun k : Fin 8 => (rV k).set) disjV coverV (m ((c : Thread nD τ).loc cc0_scratch0)))
include m in
/-- the result's staging buffer, -/
theorem wJoin : (bigSep Finset.univ fun k : Fin 8 => iprop(∃ f, wP (F := F) c k f)) ⊢ (iprop(∃ f, ((c : Thread nD τ).loc cc0_scratch2) ↦{fullShare} f) : sProp (MT nD τ sig Unit (Elt F) ℕ UU ℕ)) :=
  (Entails.of_eq (bigSep_congr fun k _ => by unfold wP; rw [View.set_slice_whole])).trans
    (Ring.pointsTo_blocks_join_exists (ℓ := (c : Thread nD τ).loc cc0_scratch2) (fun k : Fin 8 => (rV k).set) disjV coverV (m ((c : Thread nD τ).loc cc0_scratch2)))
include m in
/-- the communication buffer, -/
theorem cJoin : (bigSep Finset.univ fun x : Fin 2 × Fin 8 => iprop(∃ f, cP (F := F) c x.1 x.2 f)) ⊢ (iprop(∃ f, ((c : Thread nD τ).loc cc0_scratch1) ↦{fullShare} f) : sProp (MT nD τ sig Unit (Elt F) ℕ UU ℕ)) :=
  (Entails.of_eq (bigSep_congr fun x _ => by unfold cP; rw [View.set_slice_whole])).trans
    (Ring.pointsTo_blocks_join_exists (ℓ := (c : Thread nD τ).loc cc0_scratch1) (fun x : Fin 2 × Fin 8 => (rC x.1 x.2).set) disjC coverC (m ((c : Thread nD τ).loc cc0_scratch1)))

/-- What the result array of device `c` holds after the run: every chunk at its value. -/
def OutOK (c : Dev nD) (f : (main_v1 : Ref sig .tc).ty.Contents (Elt F)) : Prop := ∀ k, ((oV k).reshape S256x1024 nE).read (Elt F) f = Z m c k

/-- and the result array, with its chunks' values. -/
theorem oJoin : (bigSep Finset.univ fun k : Fin 8 => iprop(∃ f, ⌜((oV k).reshape S256x1024 nE).read (Elt F) f = Z m c k⌝ ∗ oP c k f))
    ⊢ (iprop(∃ f : Buf (Elt F) ((c : Thread nD τ).loc main_v1), ⌜OutOK m c f⌝ ∗ ((c : Thread nD τ).loc main_v1) ↦{fullShare} f) : sProp (MT nD τ sig Unit (Elt F) ℕ UU ℕ)) := by
  have : Nonempty (Buf (Elt F) ((c : Thread nD τ).loc main_v1)) := ⟨m _⟩
  refine (bigSep_exists_pi Finset.univ (fun (k : Fin 8) (f : Buf (Elt F) ((c : Thread nD τ).loc main_v1)) =>
    (iprop(⌜((oV k).reshape S256x1024 nE).read (Elt F) f = Z m c k⌝ ∗ oP c k f) : sProp (MT nD τ sig Unit (Elt F) ℕ UU ℕ)))).trans ?_
  iintro ⟨%fs, H⟩
  ihave H := (bigSep_pure_sep (M := MT nD τ sig Unit (Elt F) ℕ UU ℕ) Finset.univ (fun k => ((oV k).reshape S256x1024 nE).read (Elt F) (fs k) = Z m c k) fun k => oP c k (fs k)) $$ H
  icases H with ⟨%hz, H⟩
  ihave H := ((Entails.of_eq (bigSep_congr fun k _ => by unfold oP; rw [View.set_slice_whole])).trans
    (pointsTo_biUnion_join (ℓ := (c : Thread nD τ).loc main_v1) (q := fullShare) Finset.univ (fun k : Fin 8 => (rX k).set) fs (m _) (fun k _ k' _ h => disjX k k' h))) $$ H
  icases H with ⟨%g, %hg, H⟩
  iexists g
  isplitr
  · ipureintro
    intro k
    rw [← hz k (Finset.mem_univ k)]
    refine View.read_congr fun i hi => hg k (Finset.mem_univ k) i ?_
    rw [View.set_reshape, View.set_slice_whole] at hi
    exact hi
  · rw [coverX]; iexact H

end Cert.KernelIdeal.Perm

end
-- ==== Proof.Ghost.lean ====
/-
# The ghost state at launch

The shared cells' invariants are allocated on every device, and each duty's token goes to the device that pays it.
-/
module

public import proofs.«01_k».proof.Proof.Chunks
public import Idealize.ShloMosaic.Lib.Pipeline.CollectiveSegs

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

variable (m : (ℓ : Loc nD τ sig) → Buf (Elt F) ℓ) (ρ : Dev nD → PrngReg) (K : Dev nD × J → ℕ) (c : Dev nD)

/-! ## The semaphores of a device -/

/-- The kernel's own: for each chunk its copy in, its send, its receive, its copy out. -/
abbrev osem : Fin 4 × Fin 8 → SemLoc sig
  | (0, k) => .dma (inS k) | (1, k) => .dma (sendS k) | (2, k) => .dma (recvS k) | (3, k) => .dma (outS k)

/-- The kernel's own semaphores are laid out as the launch asks. -/
theorem ownSemFacts : Pipeline.OwnSemFacts cfg0.spec osem := by decide

/-- The table's window is owned in full. -/
theorem share_eq (c : Dev nD) (w : Fin cfg0.W) : (dats m ρ 0 c).share w = fullShare := by unfold Dat.share; split <;> rfl

/-- Different cells of a device are different semaphores. -/
theorem csem_injective : Function.Injective csem := by decide
/-- Different cells are different semaphores of the mesh. -/
theorem kcell_injective : Function.Injective (kcell : Dev nD × J → GSem nD τ sig) := by
  rintro ⟨c, j⟩ ⟨c', j'⟩ h
  have h1 : c = c' := congrArg (fun g : GSem nD τ sig => g.1.1) h
  have h2 : j = j' := csem_injective (congrArg Prod.snd h)
  rw [h1, h2]
/-- All cells of the protocol, on all devices. -/
def shCells : Finset (GSem nD τ sig) := Finset.univ.map ⟨kcell, kcell_injective⟩

/-- Which duty of a device's shared cells: a half of its barrier's, or the one of a send or receive cell. -/
abbrev T : Type := Bool ⊕ (Bool × Fin 8)
/-- The cell of a duty, and which of its two halves it is. -/
def tcell : T → J × Bool
  | .inl d => (.inl (), d)
  | .inr x => (.inr x, false)
/-- Different tokens of a device are different duties of its cells. -/
theorem tcell_injective : Function.Injective tcell := by decide
/-- A device's duty, spelt out as the token of its cell's first round. -/
abbrev tokOf (ct : Dev nD × T) : GSem nD τ sig × ℕ × Bool := (kcell (ct.1, (tcell ct.2).1), 0, (tcell ct.2).2)
/-- Different duties have different tokens. -/
theorem tokOf_injective : Function.Injective (tokOf : Dev nD × T → GSem nD τ sig × ℕ × Bool) := by
  rintro ⟨c, t⟩ ⟨c', t'⟩ h
  have h1 := kcell_injective (congrArg Prod.fst h)
  have h2 : (tcell t).2 = (tcell t').2 := congrArg (fun x : GSem nD τ sig × ℕ × Bool => x.2.2) h
  have h3 : (tcell t).1 = (tcell t').1 := congrArg Prod.snd h1
  have h4 : c = c' := congrArg Prod.fst h1
  rw [h4, tcell_injective (Prod.ext h3 h2)]
/-- All tokens of the protocol, on all devices. -/
def shToks : Finset (GSem nD τ sig × ℕ × Bool) := Finset.univ.map ⟨tokOf, tokOf_injective⟩

/-- The launch's ghost state: the pipeline's and the shared cells'. -/
def u₀ : UU := (initOf (Pipeline.cells cfgs cellOf_inj) (Pipeline.launchToks cfgs cellOf_inj), (initOf shCells shToks, 1))

/-! ## Conjunctions taken apart -/

/-- Four parts, one by one; -/
theorem bigSep_fin4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ
/-- two parts; -/
theorem bigSep_bool (Φ : Bool → sProp (MT nD τ sig Unit (Elt F) ℕ UU ℕ)) : bigSep Finset.univ Φ = iprop(Φ false ∗ Φ true) :=
  bigSep_univ_eq_bigSepL [false, true] (by decide) (by decide) Φ
/-- one part; -/
theorem bigSep_unit (Φ : Unit → sProp (MT nD τ sig Unit (Elt F) ℕ UU ℕ)) : bigSep Finset.univ Φ = Φ () :=
  bigSep_univ_eq_bigSepL [()] (by decide) (by decide) Φ
/-- a device's cells: the barrier, the send cells, the receive cells; -/
theorem bigSep_J (Φ : J → sProp (MT nD τ sig Unit (Elt F) ℕ UU ℕ)) : bigSep Finset.univ Φ
    = iprop(Φ (.inl ()) ∗ (bigSep Finset.univ fun k : Fin 8 => Φ (.inr (false, k))) ∗ (bigSep Finset.univ fun k : Fin 8 => Φ (.inr (true, k)))) := by
  rw [bigSep_univ_sum, bigSep_univ_prod, bigSep_bool, bigSep_unit]; rfl
/-- a device's tokens: the barrier's two, the send cells', the receive cells'. -/
theorem bigSep_T (Φ : T → sProp (MT nD τ sig Unit (Elt F) ℕ UU ℕ)) : bigSep Finset.univ Φ
    = iprop((Φ (.inl false) ∗ Φ (.inl true)) ∗ (bigSep Finset.univ fun k : Fin 8 => Φ (.inr (false, k))) ∗ (bigSep Finset.univ fun k : Fin 8 => Φ (.inr (true, k)))) := by
  rw [bigSep_univ_sum, bigSep_univ_prod, bigSep_bool, bigSep_bool]; rfl

/-! ## The ghost state dealt out -/

/-- The local copies' semaphores at zero. -/
def inout : sProp (MT nD τ sig Unit (Elt F) ℕ UU ℕ) :=
  iprop((bigSep Finset.univ fun k : Fin 8 => semVal ((c : Thread nD τ), .dma (inS k)) 0) ∗ (bigSep Finset.univ fun k : Fin 8 => semVal ((c : Thread nD τ), .dma (outS k)) 0))
/-- The tokens of device `c`'s own cells; -/
def toks : sProp (MT nD τ sig Unit (Elt F) ℕ UU ℕ) := bigSep Finset.univ fun t : T => dutyTok ER (tokOf (c, t)).1 0 (tokOf (c, t)).2.2
/-- and those it pays with. -/
def payToks : sProp (MT nD τ sig Unit (Elt F) ℕ UU ℕ) :=
  iprop((dutyTok ER (bar (tg c)) 0 false ∗ dutyTok ER (bar (fr c)) 0 true) ∗ bigSep Finset.univ fun k : Fin 8 => tk c k)
/-- Its positions in its own cells. -/
def poss : sProp (MT nD τ sig Unit (Elt F) ℕ UU ℕ) := bigSep Finset.univ fun j : J => atPos ER (kcell (c, j)) 0 ∅ 0

/-- The ghost state device `c` starts from. -/
def ghost : sProp (MT nD τ sig Unit (Elt F) ℕ UU ℕ) := iprop(records m K ∗ poss (F := F) c ∗ payToks c ∗ inout c)

/-- What the launch's element gives device `c`; -/
def G : sProp (MT nD τ sig Unit (Elt F) ℕ UU ℕ) :=
  iprop((bigSep Finset.univ fun j : J => roundState ER (sched m) (kcell (c, j)) 0)
    ∗ (bigSep Finset.univ fun j : J => iprop(atPos ER (kcell (c, j)) 0 ∅ 0 ∗ reached ER (kcell (c, j)) 0)) ∗ toks c)
/-- and what the step over all devices makes of it. -/
def G' : sProp (MT nD τ sig Unit (Elt F) ℕ UU ℕ) := iprop(∃ K, ghost m K c)

/-- The launch element of the protocol is every cell at its start and every token. -/
theorem fund_cells : BI.own (ER (F := F) (initOf shCells shToks)) ⊢ (|==> bigSep Finset.univ (G m) : sProp (MT nD τ sig Unit (Elt F) ℕ UU ℕ)) := by
  have hX (Φ : GSem nD τ sig → sProp (MT nD τ sig Unit (Elt F) ℕ UU ℕ)) : bigSep shCells Φ = bigSep Finset.univ fun c : Dev nD => bigSep Finset.univ fun j : J => Φ (kcell (c, j)) := by
    unfold shCells; rw [bigSep_map, bigSep_univ_prod]; rfl
  have hT : bigSep shToks (fun x => (dutyTok ER x.1 x.2.1 x.2.2 : sProp (MT nD τ sig Unit (Elt F) ℕ UU ℕ))) = bigSep Finset.univ fun c : Dev nD => toks c := by
    unfold shToks; rw [bigSep_map, bigSep_univ_prod]; rfl
  iintro HX
  imod (Rounds.fund ER (sched m) shCells shToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, kind by kind. -/
theorem ownSems0_eq : (Pipeline.ownSems0 (Ix := Unit) (Name := ℕ) (U := UU) (Lvl := ℕ) (Val := Elt F) (τ := τ) osem c : sProp (MT nD τ sig Unit (Elt F) ℕ UU ℕ))
    = iprop((bigSep Finset.univ fun k : Fin 8 => semVal ((c : Thread nD τ), .dma (inS k)) 0) ∗ (bigSep Finset.univ fun k : Fin 8 => semVal (snd c k) 0)
      ∗ (bigSep Finset.univ fun k : Fin 8 => semVal (rcv c k) 0) ∗ (bigSep Finset.univ fun k : Fin 8 => semVal ((c : Thread nD τ), .dma (outS k)) 0)) := by
  unfold Pipeline.ownSems0; rw [bigSep_univ_prod, bigSep_fin4]
/-- The semaphore outside the launch is the barrier. -/
theorem unscopedSems0_eq : (unscopedSems0 c : sProp (MT nD τ sig Unit (Elt F) ℕ UU ℕ)) = semVal (bar c) 0 := by
  unfold unscopedSems0; rw [bigSep_eq_bigSepL_of_eq [SemLoc.reg barS] (by decide) (by decide)]; rfl

/-- A device's semaphores at zero: the protocol's cells and those of the local copies. -/
theorem sems0_eq :
    iprop(Pipeline.ownSems0 (Ix := Unit) (Name := ℕ) (U := UU) (Lvl := ℕ) (Val := Elt F) (τ := τ) osem c ∗ unscopedSems0 c)
      ⊢ (iprop((bigSep Finset.univ fun j : J => semVal (kcell (c, j)) 0) ∗ inout c) : sProp (MT nD τ sig Unit (Elt F) ℕ UU ℕ)) := by
  rw [ownSems0_eq, unscopedSems0_eq, bigSep_J]; unfold inout
  iintro ⟨⟨HI, HS, HV, HO⟩, HB⟩
  isplitr [HI HO]
  · isplitl [HB]; · iexact HB
    isplitl [HS]; · iexact HS
    iexact HV
  isplitl [HI] <;> iassumption

/-- The invariants of one device's shared cells are allocated. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : J => iprop(∃ κ : ℕ, cellInv ER (sched m) κ (kcell (c, j))))
          ∗ (bigSep Finset.univ fun j : J => iprop(atPos ER (kcell (c, j)) 0 ∅ 0 ∗ reached ER (kcell (c, j)) 0)) ∗ toks c ∗ inout c) := by
  unfold G
  iintro ⟨Hos, Hus, Hst, Hat, Htok⟩
  ihave Hv := (sems0_eq (F := F) c) $$ [Hos Hus]
  · isplitl [Hos] <;> iassumption
  icases Hv with ⟨Hv, Hio⟩
  imod (show iprop((bigSep Finset.univ fun j : J => semVal (kcell (c, j)) 0) ∗ bigSep Finset.univ fun j : J => roundState ER (sched m) (kcell (c, j)) 0)
      ⊢ (|={Set.univ}=> bigSep Finset.univ fun j : J => iprop(∃ κ : ℕ, cellInv ER (sched m) κ (kcell (c, j))) : sProp (MT nD τ sig Unit (Elt F) ℕ UU ℕ)) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hio

/-- What is one device's alone. -/
def linear : sProp (MT nD τ sig Unit (Elt F) ℕ UU ℕ) := iprop(poss (F := F) c ∗ payToks c ∗ inout c)

/-- A device's records and its linear part are what its body starts with. -/
theorem ghost_intro : iprop(records m K ∗ linear c) ⊢ G' m c := by
  unfold G' ghost linear
  iintro H; iexists K; iexact H

/-- The tokens of the cells of a device, kind by kind. -/
theorem toks_eq : (toks c : sProp (MT nD τ sig Unit (Elt F) ℕ UU ℕ)) = iprop((dutyTok ER (bar c) 0 false ∗ dutyTok ER (bar c) 0 true)
    ∗ (bigSep Finset.univ fun k : Fin 8 => dutyTok ER (snd c k) 0 false) ∗ (bigSep Finset.univ fun k : Fin 8 => dutyTok ER (rcv c k) 0 false)) := by
  unfold toks; rw [bigSep_T]; rfl
/-- The tokens that a device pays with, kind by kind. -/
theorem payToks_eq : (payToks c : sProp (MT nD τ sig Unit (Elt F) ℕ UU ℕ)) = iprop((dutyTok ER (bar (tg c)) 0 false ∗ dutyTok ER (bar (fr c)) 0 true)
    ∗ (bigSep Finset.univ fun k : Fin 8 => dutyTok ER (snd c k) 0 false) ∗ (bigSep Finset.univ fun k : Fin 8 => dutyTok ER (rcv (tg c) k) 0 false)) := by
  unfold payToks tk; rw [bigSep_sep']

/-- Every token goes to the device that pays the duty. -/
theorem toks_around : (bigSep Finset.univ fun c : Dev nD => (toks c : sProp (MT nD τ sig Unit (Elt F) ℕ UU ℕ))) = bigSep Finset.univ fun c : Dev nD => payToks c := by
  simp only [toks_eq, payToks_eq]
  rw [bigSep_sep', bigSep_sep', bigSep_sep', bigSep_sep', bigSep_sep', bigSep_sep',
    bigSep_univ_equiv perm (fun c : Dev nD => (dutyTok ER (bar c) 0 false : sProp (MT nD τ sig Unit (Elt F) ℕ UU ℕ))),
    bigSep_univ_equiv perm.symm (fun c : Dev nD => (dutyTok ER (bar c) 0 true : sProp (MT nD τ sig Unit (Elt F) ℕ UU ℕ))),
    bigSep_univ_equiv perm (fun c : Dev nD => (bigSep Finset.univ fun k : Fin 8 => dutyTok ER (rcv c k) 0 false : sProp (MT nD τ sig Unit (Elt F) ℕ UU ℕ)))]
  rfl

/-- A fact that may be copied is given to every part. -/
theorem with_persistent {I : Type} [DecidableEq I] {s : Finset I} {R : sProp (MT nD τ sig Unit (Elt F) ℕ UU ℕ)} [BI.Persistent R] {Φ Ψ : I → sProp (MT nD τ sig Unit (Elt F) ℕ UU ℕ)}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

/-- The names are collected and the tokens passed around. -/
theorem regroup :
    (bigSep Finset.univ fun c : Dev nD => iprop((bigSep Finset.univ fun j : J => iprop(∃ κ : ℕ, cellInv ER (sched m) κ (kcell (c, j))))
          ∗ (bigSep Finset.univ fun j : J => iprop(atPos ER (kcell (c, j)) 0 ∅ 0 ∗ reached ER (kcell (c, j)) 0)) ∗ toks c ∗ inout c) : sProp (MT nD τ sig Unit (Elt F) ℕ UU ℕ))
      ⊢ bigSep Finset.univ (G' m) := by
  rw [bigSep_sep', bigSep_sep', bigSep_sep', ← bigSep_univ_prod (fun cj : Dev nD × J => iprop(∃ κ : ℕ, cellInv ER (sched m) κ (kcell cj))),
    bigSep_congr (s := Finset.univ) (fun (c : Dev nD) _ => bigSep_sep' Finset.univ (fun j : J => (atPos ER (kcell (c, j)) 0 ∅ 0 : sProp (MT nD τ sig Unit (Elt F) ℕ UU ℕ))) (fun j => reached ER (kcell (c, j)) 0)),
    bigSep_sep', ← bigSep_univ_prod (fun cj : Dev nD × J => (reached ER (kcell cj) 0 : sProp (MT nD τ sig Unit (Elt F) ℕ UU ℕ))), toks_around]
  iintro ⟨HI, ⟨Hat, #HR⟩, Htok, Hio⟩
  ihave HK := (BI.bigSep_exists_pi Finset.univ (fun (cj : Dev nD × J) (κ : ℕ) => (cellInv ER (sched m) κ (kcell cj) : sProp (MT nD τ sig Unit (Elt F) ℕ UU ℕ)))) $$ HI
  icases HK with ⟨%K, #HI⟩
  iapply (with_persistent (R := records m K) fun c _ => ghost_intro m K c)
  isplitr
  · unfold records; isplitl; · iexact HI
    iexact HR
  · unfold linear poss; rw [bigSep_sep', bigSep_sep']
    isplitl [Hat]; · iexact Hat
    isplitl [Htok]; · iexact Htok
    iexact Hio

/-- The launch's step over all devices. -/
theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

end Cert.KernelIdeal.Perm

end
-- ==== Proof.Run.lean ====
/-
# The launch

Every execution of the kernel from the pinned table ends with every chunk of every result at its value.
-/
module

public import proofs.«01_k».proof.Proof.Ghost

@[expose] public section

noncomputable section

namespace Cert.KernelIdeal.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation Dat)

variable {F : FTy → Type} [FloatOps F]

variable (m : (ℓ : Loc nD τ sig) → Buf (Elt F) ℓ) (ρ : Dev nD → PrngReg) (c : Dev nD)

/-! ## The credits of the launch -/

/-- All a device owes its target's landing cells, chunk by chunk. -/
theorem owR_sum (d : Dev nD) : owR d 8 = ∑ k : Fin 8, tallyAt (rcv (tg d) k) () N := by
  rw [Fin.sum_univ_eight]
  simp only [owR, zero_add]
  rw [show ck 0 = 7 from rfl, show ck 1 = 6 from rfl, show ck 2 = 5 from rfl, show ck 3 = 4 from rfl, show ck 4 = 3 from rfl, show ck 5 = 2 from rfl,
    show ck 6 = 1 from rfl, show ck 7 = 0 from rfl]
  ac_rfl

/-- What the devices owe a device's cells is its own waits' credit. -/
theorem creds : (Pipeline.launchCred O₀ c : sProp (MT nD τ sig Unit (Elt F) ℕ UU ℕ))
    ⊢ iprop(cred (tallyAt (bar c) () 2) ∗ bigSep Finset.univ fun k : Fin 8 => cred (tallyAt (rcv c k) () N)) := by
  have h : (O₀ : Dev nD → CellTallies nD τ sig Unit)
      = fun d => ((∑ k : Fin 8, tallyAt (rcv (tg d) k) () N) + tallyAt (bar (fr d)) () 1) + tallyAt (bar (tg d)) () 1 := by
    funext d; unfold O₀ O₁; rw [owR_sum]
  rw [h, Pipeline.launchCred_add, Pipeline.launchCred_add, Pipeline.launchCred_sum]
  refine (sep_mono (sep_mono (bigSep_mono fun k _ => Pipeline.launchCred_tallyAt (.dma (recvS k)) tg fr tg_fr fr_tg () N c)
    (Pipeline.launchCred_tallyAt (.reg barS) fr tg fr_tg tg_fr () 1 c)) (Pipeline.launchCred_tallyAt (.reg barS) tg fr tg_fr fr_tg () 1 c)).trans ?_
  iintro ⟨⟨HR, H1⟩, H2⟩
  isplitl [H1 H2]
  · rw [show (tallyAt (bar c) () 2 : CellTallies nD τ sig Unit) = tallyAt (bar c) () 1 + tallyAt (bar c) () 1 from (tallyAt_add _ _ 1 1).symm]
    iapply (cred_add _ _).2
    isplitl [H1] <;> iassumption
  iexact HR

/-! ## Into the body and out of it -/

/-- What a device's body starts from, besides its own buffers. -/
def start : sProp (MT nD τ sig Unit (Elt F) ℕ UU ℕ) :=
  iprop(G' m c ∗ (cred (tallyAt (bar c) () 2) ∗ bigSep Finset.univ fun k : Fin 8 => cred (tallyAt (rcv c k) () N)) ∗ levAts L lv
    ∗ (((c : Thread nD τ).loc main_arg0) ↦{fullShare} m ((c : Thread nD τ).loc main_arg0))
    ∗ (((c : Thread nD τ).loc main_v1) ↦{fullShare} m ((c : Thread nD τ).loc main_v1)))

/-- What the launch gives a device is what its body starts with. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp (MT nD τ sig Unit (Elt F) ℕ UU ℕ)) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexact Ho
  · iempintro

/-- A conjunction of pieces at one contents, each piece at some contents. -/
theorem some_each {I : Type} [DecidableEq I] (s : Finset I) {α : I → Type} (Φ : (i : I) → α i → sProp (MT nD τ sig Unit (Elt F) ℕ UU ℕ)) (f : (i : I) → α i) :
    (bigSep s fun i => Φ i (f i)) ⊢ bigSep s fun i => iprop(∃ g, Φ i g) :=
  bigSep_mono fun i _ => show _ ⊢ (_ : sProp (MT nD τ sig Unit (Elt F) ℕ UU ℕ)) from by iintro H; iexists (f i); iexact H

/-- The two halves' chunks apart. -/
theorem bigSep_halves (Φ : Fin 2 × Fin 8 → sProp (MT nD τ sig Unit (Elt F) ℕ UU ℕ)) : bigSep Finset.univ Φ
    = iprop((bigSep Finset.univ fun k : Fin 8 => Φ (0, k)) ∗ (bigSep Finset.univ fun k : Fin 8 => Φ (1, k))) := by
  rw [bigSep_univ_prod]; exact bigSep_univ_eq_bigSepL [0, 1] (by decide) (by decide) _

/-- The body's start, from the launch's and the scratch buffers. -/
theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start G' ghost payToks inout poss
  rw [bigSep_J]
  iintro ⟨⟨⟨%K, #HR, Hat, ⟨⟨Ht1, Ht2⟩, Htk⟩, HI, HU⟩, ⟨Hc, HC⟩, Hlev, Hx, Ho⟩, -, ⟨%fv, Hv⟩, ⟨%fc, Hc'⟩, ⟨%fw, Hw⟩⟩
  icases Hat with ⟨Hab, Has, Har⟩
  ihave Hx := (Entails.of_eq (xSplit m c)) $$ Hx
  ihave Ho := (Entails.of_eq (oSplit c (m ((c : Thread nD τ).loc main_v1)))) $$ Ho
  ihave Hv := (Entails.of_eq (vSplit c fv)) $$ Hv
  ihave Hw := (Entails.of_eq (wSplit c fw)) $$ Hw
  ihave Hc' := (Entails.of_eq (cSplit c fc)) $$ Hc'
  ihave Ho := (some_each Finset.univ (fun k f => oP (F := F) c k f) fun _ => m ((c : Thread nD τ).loc main_v1)) $$ Ho
  ihave Hv := (some_each Finset.univ (fun k f => vP (F := F) c k f) fun _ => fv) $$ Hv
  ihave Hw := (some_each Finset.univ (fun k f => wP (F := F) c k f) fun _ => fw) $$ Hw
  ihave Hc' := (some_each Finset.univ (fun (x : Fin 2 × Fin 8) f => cP (F := F) c x.1 x.2 f) fun _ => fc) $$ Hc'
  ihave Hc' := (Entails.of_eq (bigSep_halves fun x => iprop(∃ f, cP (F := F) c x.1 x.2 f))) $$ Hc'
  icases Hc' with ⟨Hc0, Hc1⟩
  isplitr; · iexists K; iexact HR
  isplitl [Hlev]; · iexact Hlev
  isplitl [Ht1]; · iexact Ht1
  isplitl [Ht2]; · iexact Ht2
  isplitl [Hc]; · iexact Hc
  isplitl [Hab]; · iexact Hab
  isplitl [Hc1]; · unfold D; iexact Hc1
  isplitl [Hx Hv HI]
  · unfold A0; rw [bigSep_sep', bigSep_sep']
    isplitl [Hx]; · iexact Hx
    isplitl [Hv] <;> iassumption
  isplitl [Hc0 Htk Has]
  · unfold B0; rw [bigSep_sep', bigSep_sep']
    isplitl [Hc0]; · iexact Hc0
    isplitl [Htk]; · iexact Htk
    iexact Has
  isplitl [HC Har]
  · unfold R0; rw [bigSep_sep']
    isplitl [HC]; · iexact HC
    iexact Har
  unfold S0; rw [bigSep_sep', bigSep_sep']
  isplitl [Hw]; · iexact Hw
  isplitl [Ho]; · iexact Ho
  iexact HU

/-- What a device ends with: its input unchanged, its result, its barrier at zero. -/
def finish : sProp (MT nD τ sig Unit (Elt F) ℕ UU ℕ) :=
  iprop(unscopedSems0 c ∗ (((c : Thread nD τ).loc main_arg0) ↦{fullShare} m ((c : Thread nD τ).loc main_arg0))
    ∗ ∃ f : Buf (Elt F) ((c : Thread nD τ).loc main_v1), ⌜OutOK m c f⌝ ∗ ((c : Thread nD τ).loc main_v1) ↦{fullShare} f)

/-- What the body leaves ends the launch. -/
theorem phi1_exit :
    (dats m ρ 0 c).Φ (Fin.last cfg0.N) ⊢ (iprop(finish m c ∗ Pipeline.ownSems0 osem c ∗ Pipeline.scopedRest cfg0.spec c) : sProp (MT nD τ sig Unit (Elt F) ℕ UU ℕ)) := by
  rw [show (dats m ρ 0 c).Φ (Fin.last cfg0.N) = Φ₁ m c from rfl, scopedRest0_eq, ownSems0_eq]
  unfold Φ₁ A2 B3 R1 S3' finish
  rw [unscopedSems0_eq, bigSep_sep', bigSep_sep', bigSep_sep', bigSep_sep', bigSep_sep', bigSep_sep']
  iintro ⟨HB, ⟨Hx, Hv, HI⟩, ⟨Hc0, HS⟩, ⟨Hc1, HV⟩, Hw, Ho, HU⟩
  ihave Hx := (Entails.of_eq (xSplit m c).symm) $$ Hx
  ihave Ho := (oJoin m c) $$ Ho
  ihave Hw := (wJoin m c) $$ Hw
  ihave Hv := (show (bigSep Finset.univ fun k : Fin 8 => iprop(∃ f, ⌜(vV k).read (Elt F) f = X m c k⌝ ∗ vP c k f)) ⊢ (bigSep Finset.univ fun k : Fin 8 => iprop(∃ f, vP (F := F) c k f) : sProp (MT nD τ sig Unit (Elt F) ℕ UU ℕ)) from
    bigSep_mono fun k _ => show _ ⊢ (_ : sProp (MT nD τ sig Unit (Elt F) ℕ UU ℕ)) from by iintro ⟨%f, -, H⟩; iexists f; iexact H) $$ Hv
  ihave Hv := (vJoin m c) $$ Hv
  ihave Hc1 := (show (bigSep Finset.univ fun k : Fin 8 => recvPay m c k) ⊢ (bigSep Finset.univ fun k : Fin 8 => iprop(∃ f, cP (F := F) c 1 k f) : sProp (MT nD τ sig Unit (Elt F) ℕ UU ℕ)) from
    bigSep_mono fun k _ => show _ ⊢ (_ : sProp (MT nD τ sig Unit (Elt F) ℕ UU ℕ)) from by unfold recvPay; iintro ⟨%f, -, H⟩; iexists f; iexact H) $$ Hc1
  ihave Hc := (show iprop((bigSep Finset.univ fun k : Fin 8 => iprop(∃ f, cP (F := F) c 0 k f)) ∗ bigSep Finset.univ fun k : Fin 8 => iprop(∃ f, cP (F := F) c 1 k f))
      ⊢ (bigSep Finset.univ fun x : Fin 2 × Fin 8 => iprop(∃ f, cP (F := F) c x.1 x.2 f) : sProp (MT nD τ sig Unit (Elt F) ℕ UU ℕ)) from Entails.of_eq (bigSep_halves fun x => iprop(∃ f, cP (F := F) c x.1 x.2 f)).symm) $$ [Hc0 Hc1]
  · isplitl [Hc0] <;> iassumption
  ihave Hc := (cJoin m c) $$ Hc
  isplitl [HB Hx Ho]
  · isplitl [HB]; · iexact HB
    isplitl [Hx]; · iexact Hx
    iexact Ho
  isplitl [HI HS HV HU]
  · isplitl [HI]; · iexact HI
    isplitl [HS]; · iexact HS
    isplitl [HV]; · iexact HV
    iexact HU
  isplitl [Hv]; · iexact Hv
  isplitl [Hc]; · iexact Hc
  iexact Hw

/-- The pipeline's own waits are below what the body owes. -/
theorem waits : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What one device's memory is after the run. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ OutOK m c (s.mem ((c : Thread nD τ).loc main_v1))

/-- One buffer's contents are the memory's. -/
theorem read_one (ℓ : Loc nD τ sig) (f : Buf (Elt F) ℓ) (s' : Phys nD τ sig (Elt F)) :
    (iprop((ℓ ↦{fullShare} f) ∗ SI s') : sProp (MT nD τ sig Unit (Elt F) ℕ UU ℕ)) ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  rw [bigSep_unit] at h
  refine h.trans ?_
  iintro ⟨%h, H⟩
  isplitr; · (ipureintro; exact h () (Finset.mem_univ _))
  iexact H

/-- What is left at the end, read of the final state. -/
theorem finish_read (s' : Phys nD τ sig (Elt F)) :
    (iprop(finish m c ∗ SI s') : sProp (MT nD τ sig Unit (Elt F) ℕ UU ℕ)) ⊢ |={Set.univ}=> iprop(⌜QY m c s'.mem⌝ ∗ SI s') := by
  unfold finish
  iintro ⟨⟨Hu, Hx, ⟨%f, %hf, Ho⟩⟩, HSI⟩
  ihave H := (read_one _ _ s') $$ [Hx HSI]
  · isplitl [Hx] <;> iassumption
  icases H with ⟨%hx, HSI⟩
  ihave H := (read_one _ _ s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hx, by rw [ho]; exact hf⟩
  iexact HSI

set_option maxRecDepth 8000 in
/-- From any memory whose table is the pinned one, every execution ends, with both inputs as they were, every chunk of
    every device's result at its value and every semaphore at zero. -/
theorem run_main (hpre : PreOK m) : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ OutOK m c (r.2.mem ((c : Thread nD τ).loc main_v1))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hpre) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb _ _) $$ HX
      icases H with ⟨HX, -⟩
      imod (fund_cells m) $$ [HX] with HG
      · iexact HX
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m ρ) (hout := phi1_exit m ρ)
    (QY := QY m)
    (hY := fun c s' => by
      iintro ⟨Hu, -, HSI⟩
      iapply (finish_read m c s')
      isplitl [Hu] <;> iassumption)
    (hQ := fun s h hs => ⟨fun c => ⟨(h c).2.2.2.1, ((h c).1 (0 : Fin 1)).trans ((dats (F := F) m ρ 0 c).arrAt_in (0 : Fin 1) rfl _), (h c).2.2.2.2⟩, sem_eq_zero hs fun c => (h c).2.2.1⟩)

end Cert.KernelIdeal.Perm

end
-- ==== Proof.Printed.lean ====
/-
# The printed kernel's run

The kernel printed for reading at exact values is the kernel itself, text for text, so its run at any float values is the kernel's.
-/
module

public import proofs.«01_k».proof.Proof.Run
public import proofs.«01_k».proof.Proof.Gen.Kernel
public import Idealize.ShloMosaic.Lib.StableHlo.RunHlo

@[expose] public section

noncomputable section

namespace Cert.Kernel

open Idealize.ShloMosaic Idealize.ShloMosaic.TcCoe Idealize.SL.Sem

variable {F : FTy → Type} [FloatOps F]

set_option maxRecDepth 100000 in
/-- The two printings' bodies are one program. -/
theorem body_eq : cc0_body (F := F) = Cert.KernelIdeal.cc0_body (F := F) := rfl

/-- So are their labels' bodies, -/
theorem defs₀_eq : defs₀ (F := F) = Cert.KernelIdeal.defs₀ (F := F) := by
  unfold defs₀ Cert.KernelIdeal.defs₀
  refine congrArg (Defs.onTc (nD := nD) (τ := τ) (sig := sig) (Val := Elt F) (Λ := Λ₀)) (funext fun l => ?_)
  match l with
  | 0 => exact funext fun ⟨t, s⟩ => rfl

set_option maxRecDepth 100000 in
/-- and with the pipeline's. -/
theorem defs_eq : defs (F := F) = Cert.KernelIdeal.defs (F := F) := congrArg (Pipeline.defs pcfgs) defs₀_eq

set_option maxRecDepth 100000 in
/-- The kernel from a memory whose table is the pinned one: every execution ends, inputs unchanged, semaphores at zero. -/
theorem run_main (m : (ℓ : Loc nD τ sig) → Buf (Elt F) ℓ) (ρ : Dev nD → PrngReg)
    (hpre : ∀ (c : Dev nD) (i : S16.Idx), (m ((c : Thread nD τ).loc main_arg1) : IVec S16 32) i = Cert.KernelIdeal.Perm.wd (i 0).val) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  rw [defs_eq]
  exact θ_run_mono (Cert.KernelIdeal.Perm.run_main m ρ hpre) fun r hr => ⟨fun c => ⟨(hr.1 c).1, (hr.1 c).2.1⟩, hr.2⟩

end Cert.Kernel

end
-- ==== Proof.Value.lean ====
/-
# What the kernel leaves, index by index

At exact values (extended reals) the kernel's 8-bit code, sent and scaled back, is the rounded, clipped multiple itself: the rounding has made it
an integer and the clip has put it between -127 and 127, so that the conversion to 8 bits and back loses nothing. So the result of device `c` is the
quantiser `quant` of the input of the device it receives from, at every index.
-/
module

public import proofs.«01_k».proof.Proof.Chunks
public import Idealize.ShloMosaic.PureOps.Ideal
public import Idealize.ShloMosaic.Lib.Pipeline.Value

@[expose] public section

noncomputable section

namespace Cert.KernelIdeal.Perm

open Cert.KernelIdeal Cert.KernelIdeal.Gen

open Idealize.ShloMosaic
open Idealize.ShloMosaic.TcCoe

/-! ## The quantiser -/

/-- The code of a number: its multiple, rounded to an integer and clipped. -/
def code (x : EReal) : EReal :=
  min (Ideal.ofBits .f32 0x42FE0000#32) (max (Ideal.ofBits .f32 0xC2FE0000#32) (Ideal.liftRound Ideal.roundHalfEven (x * Ideal.ofBits .f32 0x41D3AAAB#32)))

/-- The number that its code stands for. -/
def quant (x : EReal) : EReal := code x * Ideal.ofBits .f32 0x3D1ACF38#32

/-- The clip's upper bound is 127, -/
theorem hi_eq : Ideal.ofBits .f32 0x42FE0000#32 = ((127 : ℝ) : EReal) := by
  simp [Ideal.ofBits, Ideal.ieee, -EReal.coe_mul]; norm_num

/-- its lower bound -127. -/
theorem lo_eq : Ideal.ofBits .f32 0xC2FE0000#32 = ((-127 : ℝ) : EReal) := by
  simp [Ideal.ofBits, Ideal.ieee, -EReal.coe_mul]; norm_num

/-- A code is an integer between the two bounds. -/
theorem code_int (x : EReal) : ∃ n : ℤ, -127 ≤ n ∧ n ≤ 127 ∧ code x = ((n : ℝ) : EReal) := by
  unfold code
  rw [hi_eq, lo_eq]
  generalize x * Ideal.ofBits .f32 0x41D3AAAB#32 = y
  induction y with
  | bot => exact ⟨-127, by norm_num, by norm_num, by
      rw [Ideal.liftRound_bot, max_eq_left bot_le, min_eq_right (EReal.coe_le_coe_iff.2 (by norm_num))]; norm_num⟩
  | top => exact ⟨127, by norm_num, by norm_num, by rw [Ideal.liftRound_top, max_eq_right le_top, min_eq_left le_top]; norm_num⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast
    rfl

/-- An integer between the two bounds is the same after conversion to 8 bits and back. -/
theorem narrow_int (n : ℤ) (h1 : -127 ≤ n) (h2 : n ≤ 127) : (Ideal.fptosi 8 ((n : ℝ) : EReal)).toInt = n := by
  unfold Ideal.fptosi
  rw [Ideal.toIntClamped_coe, Int.floor_intCast, Int.ceil_intCast, ite_self, BitVec.toInt_ofInt]
  norm_num
  have : max (-128) (min 127 n) = n := by omega
  rw [this]
  simp only [Int.bmod]
  omega

/-- So is a code. -/
theorem narrow_code (x : EReal) : (((Ideal.fptosi 8 (code x)).toInt : ℝ) : EReal) = code x := by
  obtain ⟨n, h1, h2, h⟩ := code_int x
  rw [h, narrow_int n h1 h2]

/-! ## The kernel's chunk -/

/-- A chunk quantised, sent and scaled back is the quantiser at every index. -/
theorem sent_eq (v : Vec Ideal S256x1024 .f32) (i : S256x1024.Idx) : k0_pay12 (F := Ideal) (k0_pay1 (F := Ideal) v) i = quant (v i) := by
  unfold k0_pay12 k0_pay1
  dsimp only
  rw [shapeCast_self, shapeCast_shapeCast]
  exact congrArg (· * Ideal.ofBits .f32 0x3D1ACF38#32) (narrow_code (v i))

/-- Every index of the array is in a chunk. -/
theorem chunk_at (i : S1x2048x1024.Idx) : ∃ (k : Fin 8) (y : S256x1024.Idx), ((oV k).reshape S256x1024 nE).emb y = i := by
  have h : i ∈ Finset.univ.biUnion (fun k => (rX k).set) := by rw [coverX]; exact Finset.mem_univ i
  obtain ⟨k, _, hk⟩ := Finset.mem_biUnion.mp h
  have hk' : i ∈ ((oV k).reshape S256x1024 nE).set := by rw [View.set_reshape, View.set_slice_whole]; exact hk
  obtain ⟨y, -, hy⟩ := Finset.mem_map.mp hk'
  exact ⟨k, y, hy⟩

variable (m : (ℓ : Loc nD τ sig) → Buf (Elt Ideal) ℓ)

/-- The result of device `c` is the quantiser of the input of the device that `c` receives from. -/
theorem out_at (c : Dev nD) (f : (main_v1 : Ref sig .tc).ty.Contents (Elt Ideal)) (h : OutOK m c f) (i : S1x2048x1024.Idx) :
    (f : FVec Ideal S1x2048x1024 .bf16) i = quant ((m ((fr c : Thread nD τ).loc main_arg0) : FVec Ideal S1x2048x1024 .f32) i) := by
  obtain ⟨k, y, rfl⟩ := chunk_at i
  exact (congrFun (h k) y).trans (sent_eq (X m (fr c) k) y)

end Cert.KernelIdeal.Perm

end
-- ==== Proof.Reference.lean ====
/-
# What the reference leaves, index by index

The reference sorts the table, takes for device `c` the position that the table sends to `c`, gathers that device's rows and quantises them. At the
pinned table the position is the next device's number, so that the result at an index is the quantiser of the input at the index of the next device.
-/
module

public import proofs.«01_k».proof.Proof.Value
public import proofs.«01_k».proof.Proof.Gen.ReferenceIdeal.Run
public import Idealize.ShloMosaic.Lib.Quiescent
public import Idealize.ShloMosaic.Lib.StableHlo.RunHlo

@[expose] public section

noncomputable section

namespace Cert.ReferenceIdeal.Rolled

open Cert.ReferenceIdeal Cert.ReferenceIdeal.Gen Idealize.ShloMosaic Idealize.ShloMosaic.TcCoe Idealize.SL.Sem
open Cert.KernelIdeal.Perm (wd fr quant)

/-! ## The sort -/

set_option maxRecDepth 100000 in
/-- The position that the table's sort puts at `c` is the next device's number. -/
theorem sorted_at (c : Fin 16) : sortedFrom (n := 16) (fun k k' => IntOp.cmpi .slt (wd k.val) (wd k'.val) == 1#1) c = fr c := by
  revert c; decide +kernel

/-- The sorting positions of the pinned table, at a position. -/
theorem argsort_at (t : IVec S16 32) (ht : ∀ i : S16.Idx, t i = wd (i 0).val) (j : S16.Idx) :
    (Host.sort2 S16 0 comparator_i32_i32_d0 t (iotaInDim S16 32 0)).2 j = BitVec.ofNat 32 (fr (j 0)).val := by
  obtain rfl : t = fun i => wd (i 0).val := funext ht
  exact congrArg (fun k : Fin 16 => BitVec.ofNat 32 k.val) (sorted_at (j 0))

/-! ## The gather -/

local notation "dims" => gather_S16x2048x1024_S16x1_S16x2048x1024_12_0_n_n_0_1_120481024

/-- The axis of the devices is not read from the result's index, -/
theorem off_zero (j : S16x2048x1024.Idx) : (dims).offCoord j (0 : Fin 3) = 0 := (dims).offCoord_eq_zero j (0 : Fin 3) (by decide)

/-- that of the rows is, -/
theorem off_one (j : S16x2048x1024.Idx) : (dims).offCoord j (1 : Fin 3) = (j 1).val := by
  unfold GatherDims.offCoord
  rw [dif_pos (by decide)]
  rfl

/-- and that of the columns. -/
theorem off_two (j : S16x2048x1024.Idx) : (dims).offCoord j (2 : Fin 3) = (j 2).val := by
  unfold GatherDims.offCoord
  rw [dif_pos (by decide)]
  rfl

/-- The device is the one that the table of starts names. -/
theorem start_zero (t : IVec S16x1 32) (j : S16x2048x1024.Idx) (b : Fin 16) (hb : ∀ i : S16x1.Idx, i 0 = j 0 → t i = BitVec.ofNat 32 b.val) :
    (dims).start j t (0 : Fin 3) = b.val := by
  unfold GatherDims.start
  rw [dif_pos (by decide), hb _ rfl]
  show min (BitVec.ofNat 32 b.val).toInt.toNat 15 = b.val
  clear hb; revert b; decide

/-- A gathered array at an index: the operand's, on the device that the table of starts names. -/
theorem gather_at (x : FVec Ideal S16x2048x1024 .f32) (t : IVec S16x1 32) (j : S16x2048x1024.Idx) (b : Fin 16)
    (hb : ∀ i : S16x1.Idx, i 0 = j 0 → t i = BitVec.ofNat 32 b.val) :
    Host.gather dims x t j = x (Function.update j (0 : Fin 3) b) := by
  unfold Host.gather
  refine congrArg x (funext fun (a : Fin 3) => Fin.ext ?_)
  show (dims).start j t a + (dims).batchCoord j a + (dims).offCoord j a = _
  rw [(dims).batchCoord_eq_zero j a List.not_mem_nil, Nat.add_zero]
  match a with
  | 0 => exact (congrArg₂ (· + ·) (start_zero t j b hb) (off_zero j)).trans rfl
  | 1 => exact (congrArg₂ (· + ·) (dif_neg (by decide)) (off_one j)).trans (Nat.zero_add _)
  | 2 => exact (congrArg₂ (· + ·) (dif_neg (by decide)) (off_two j)).trans (Nat.zero_add _)

/-! ## The value -/

/-- What the reference computes of input `x` at the pinned table. -/
def out (x : FVec Ideal S16x2048x1024 .f32) : FVec Ideal S16x2048x1024 .bf16 := fun j => quant (x (Function.update j (0 : Fin 3) (fr (j 0))))

/-- A negative start would be counted from the end; a device's number is not negative. -/
theorem wrap_at (b : Fin 16) : (if IntOp.cmpi .slt (BitVec.ofNat 32 b.val) 0#32 = 1#1 then IntOp.addi (BitVec.ofNat 32 b.val) 16#32 else BitVec.ofNat 32 b.val)
    = BitVec.ofNat 32 b.val := by
  revert b; decide

/-- The starts of the gather, at an index: the next device's number. -/
theorem starts_at (s : IVec S16 32) (hs : ∀ i : S16.Idx, s i = BitVec.ofNat 32 (fr (i 0)).val) (i : S16x1.Idx) :
    broadcastInDim S16x1 ![0] bcast_S16_S16x1_0 (select (cmpi .slt s (broadcastInDim S16 ![] bcast_S_S16 (constantI S_ 32 0#32)))
      (addi s (broadcastInDim S16 ![] bcast_S_S16 (constantI S_ 32 16#32))) s) i = BitVec.ofNat 32 (fr (i 0)).val := by
  obtain rfl : s = fun i => BitVec.ofNat 32 (fr (i 0)).val := funext hs
  exact wrap_at (fr (i 0))

variable (m : (ℓ : Loc nD τ sig) → Buf (Elt Ideal) ℓ) (ρ : Dev nD → PrngReg)

/-- The reference from any memory: every execution ends, inputs unchanged, semaphores at zero. -/
theorem run_any : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (Value.run (F := Ideal) m ρ) fun r h => ⟨fun c => (h c).2, sem_eq_zero_of_no_sems (by decide) r.2⟩

/-- The reference from a memory whose table is the pinned one: it ends, its result `out` of its input, its inputs unchanged. -/
theorem run_rolled (ht : ∀ (c : Dev nD) (i : S16.Idx), (m ((c.tc : Thread nD τ).loc main_arg1) : IVec S16 32) i = wd (i 0).val) :
    θ_run (defs (F := Ideal)) (onTc (τ := τ) (main (F := Ideal))) ⟨m, fun _ => 0, ρ⟩ fun r => ∀ c : Dev nD,
      r.2.mem ((c.tc : Thread nD τ).loc main_v14) = out (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Value.run (F := Ideal) m ρ) fun r h => fun c => by
    refine ⟨(h c).1.trans (funext fun j => ?_), (h c).2⟩
    exact congrArg quant (gather_at _ _ j (fr (j 0)) fun i hi => (starts_at _ (argsort_at _ (ht c)) i).trans (congrArg (fun b : Fin 16 => BitVec.ofNat 32 (fr b).val) hi))

end Cert.ReferenceIdeal.Rolled

end
-- ==== Proof.lean ====
/-
# The certificate's claims

The kernel's run is Proof/Run.lean (at any float values) and Proof/Printed.lean (the printed kernel), the reference's Proof/Reference.lean; what the
kernel leaves at an index is Proof/Value.lean. Here the precondition is read as the table, and the two sides meet: device `c` is left the quantiser
of the input of device `c + 1`, which is block `c` of the reference's result.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Run
public import proofs.«01_k».proof.Proof.Printed
public import proofs.«01_k».proof.Proof.Value
public import proofs.«01_k».proof.Proof.Reference

@[expose] public section

noncomputable section

namespace Cert.Proof

open Idealize.ShloMosaic Idealize.ShloMosaic.TcCoe Idealize.SL.Sem
open Cert.KernelIdeal.Perm (wd fr quant)
open Cert.KernelIdeal (S16)

/-- The precondition's evidence that the programs ask for. -/
instance : Cert.Pre_rolled_Kernel.Facts := ⟨⟩
/-- And that of the reference. -/
instance : Cert.Pre_rolled_ReferenceIdeal.Facts := ⟨⟩

/-! ## The precondition -/

/-- The precondition's table is that of the permutation. -/
theorem lit_eq (i : S16.Idx) : Cert.Pre_rolled_Kernel.lit0 (S16.rowMajor i) = wd (i 0).val := by
  have h : ∀ k : Fin 16, Cert.Pre_rolled_Kernel.lit0 k = wd k.val := by decide
  have e : S16.rowMajor i = i 0 := Fin.ext (Shape.rowMajor_val_one i)
  rw [e]; exact h _

/-- The precondition, read at an index of the table. -/
theorem table_of_pre {F : FTy → Type} [FloatOps F] (x : FVec F ⟨3, ![1, 2048, 1024]⟩ .f32) (t : IVec S16 32)
    (h : Cert.Pre_rolled_Kernel.fn x t = fun _ => 1#1) (i : S16.Idx) : t i = wd (i 0).val := by
  have e : IntOp.cmpi .eq (t i) (Cert.Pre_rolled_Kernel.lit0 (S16.rowMajor i)) = 1#1 := congrFun h i
  rw [← lit_eq i]
  have w : ∀ b : Bool, BitVec.ofBool b = 1#1 → b = true := by decide
  exact eq_of_beq (w _ e)

/-! ## The claims -/

/-- The printed kernel ends, its inputs unchanged, its semaphores at zero. -/
theorem frame_p : Cert.quiescent_Kernel := fun m g h =>
  Cert.Kernel.run_main m g fun c i => table_of_pre _ _ (h c) i

/-- So does the kernel at exact values, -/
theorem frame_pi : Cert.quiescent_KernelIdeal := fun m g h =>
  θ_run_mono (Cert.KernelIdeal.Perm.run_main m g fun c i => table_of_pre _ _ (h c) i) fun r hr => ⟨fun c => ⟨(hr.1 c).1, (hr.1 c).2.1⟩, hr.2⟩

/-- and the reference. -/
theorem frame_ri : Cert.quiescent_ReferenceIdeal := fun m g _ => Cert.ReferenceIdeal.Rolled.run_any m g

/-- An index of device `c`'s block, moved to the next device's, is the same index of that block. -/
theorem block_next (h : Layout.Tiles ⟨3, ![1, 2048, 1024]⟩ ⟨3, ![16, 2048, 1024]⟩ 0 16) (c : Fin 16) (i : (⟨3, ![1, 2048, 1024]⟩ : Shape).Idx) :
    Function.update (h.idx c i) (0 : Fin 3) (fr (h.idx c i 0)) = h.idx (fr c) i := by
  have hi : (i 0).val = 0 := Nat.lt_one_iff.1 (i 0).isLt
  have h0 : ∀ d : Fin 16, (h.idx d i 0 : Fin 16) = d := fun d => Fin.ext (by
    rw [h.idx_val]
    show d.val * 1 + (i 0).val = d.val
    omega)
  funext (a : Fin 3)
  match a with
  | 0 => exact (Function.update_self ..).trans ((congrArg fr (h0 c)).trans (h0 (fr c)).symm)
  | 1 => exact Function.update_of_ne (by decide) ..
  | 2 => exact Function.update_of_ne (by decide) ..

/-- The kernel's results are the blocks of the reference's. -/
theorem value : Cert.algebraic_KernelIdeal_ReferenceIdeal := by
  intro m g m' g' hpre hag
  have ht : Cert.KernelIdeal.Perm.PreOK m := fun c i => table_of_pre _ _ (hpre c) i
  refine ⟨Cert.ReferenceIdeal.Rolled.out (m' ((((0 : Dev Cert.ReferenceIdeal.nD).tc : Thread Cert.ReferenceIdeal.nD Cert.ReferenceIdeal.τ)).loc Cert.ReferenceIdeal.main_arg0)), ?_, ?_⟩
  · refine θ_run_mono (Cert.KernelIdeal.Perm.run_main m g ht) fun r hr c => ⟨funext fun i => ?_, (hr.1 c).1, (hr.1 c).2.1⟩
    refine (Cert.KernelIdeal.Perm.out_at m c _ (hr.1 c).2.2 i).trans (congrArg quant ?_)
    rw [(hag (fr c)).1]
    exact congrArg _ (block_next _ c i).symm
  · refine θ_run_mono (Cert.ReferenceIdeal.Rolled.run_rolled m' g' fun c i => ?_) fun r hr => hr 0
    obtain rfl : c = 0 := Subsingleton.elim _ _
    exact (congrFun (hag 0).2 i).symm.trans (ht 0 i)

/-- Everything that the certificate claims. -/
theorem claim : Cert.Claim :=
  ⟨Cert.Kernel.Gen.facts, Cert.KernelIdeal.Gen.facts, Cert.ReferenceIdeal.Gen.facts, ⟨⟩, ⟨⟩, frame_p, frame_pi, frame_ri,
    fun m g _ => frame_ri m g trivial, trivial, value⟩

end Cert.Proof

end
